-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_selected [hKernelIdeal : Cert.KernelIdeal.Facts] [hReferenceIdeal : Cert.ReferenceIdeal.Facts] [hOn_selected : Cert.On_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v68)) (v3 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![1024]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v13) i = v0 c i)
          ∧ (∀ i : (⟨2, ![65536, 256]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v59) i = v1 c i)
          ∧ (∀ i : (⟨1, ![65536]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v68) i = v2 c i)
          ∧ (∀ i : (⟨1, ![65536]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v77) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![1024]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v26) i = v0 c i)
          ∧ (∀ i : (⟨2, ![65536, 256]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v69) i = v1 c i)
          ∧ (∀ i : (⟨1, ![65536]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v78) i = v2 c i)
          ∧ (∀ i : (⟨1, ![65536]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v87) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_selected : Cert.On_selected.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_selected (hKernelIdeal := hKernelIdeal) (hReferenceIdeal := hReferenceIdeal) (hOn_selected := hOn_selected)
-- ==== On_selected.lean ====
abbrev S1024x256 : Shape := ⟨2, ![1024, 256]⟩
abbrev S1024 : Shape := ⟨1, ![1024]⟩
abbrev S65536x256 : Shape := ⟨2, ![65536, 256]⟩
abbrev S65536 : Shape := ⟨1, ![65536]⟩
abbrev S_ : Shape := ⟨0, ![]⟩
abbrev S1024x1 : Shape := ⟨2, ![1024, 1]⟩
abbrev S65536x1 : Shape := ⟨2, ![65536, 1]⟩
abbrev S256x65536 : Shape := ⟨2, ![256, 65536]⟩
abbrev S1024x65536 : Shape := ⟨2, ![1024, 65536]⟩
abbrev S1024x257 : Shape := ⟨2, ![1024, 257]⟩

class Facts : Prop where
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  reducesTo_S65536x256_S65536_d1 : S65536x256.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  transposes_S65536x256_S256x65536_1_0 : S65536x256.Transposes [1, 0] S256x65536
  sliceFits_S1024x65536_S1024x257 : S1024x65536.Slices (fun _ => 0) S1024x257
  slices_S1024x257_S1024x1_0_255 : S1024x257.Slices ![0, 255] S1024x1
  shapeCasts_S1024x1_S1024 : S1024x1.ShapeCasts S1024
  slices_S1024x257_S1024x1_0_256 : S1024x257.Slices ![0, 256] S1024x1
  bcast_S_S1024 : S_.BroadcastsInDim S1024 (![] : Fin 0 → Fin S1024.rank)
  bcast_S_S65536x256 : S_.BroadcastsInDim S65536x256 (![] : Fin 0 → Fin S65536x256.rank)
  bcast_S_S65536 : S_.BroadcastsInDim S65536 (![] : Fin 0 → Fin S65536.rank)
  dot_S1024x256_S256x65536_S1024x65536_1_0_0_1_n_n_wf : DotDims.WF S1024x256 S256x65536 S1024x65536 [1] [0] [0] [1] [] []

variable [Facts]

def dot_S1024x256_S256x65536_S1024x65536_1_0_0_1_n_n : DotDims S1024x256 S256x65536 S1024x65536 where
  lhsContracting := [1]
  rhsContracting := [0]
  lhsNonContracting := [0]
  rhsNonContracting := [1]
  lhsBatch := []
  rhsBatch := []
  wf := dot_S1024x256_S256x65536_S1024x65536_1_0_0_1_n_n_wf
def fn_norm {F : FTy → Type} [FloatOps F] (arg0 : FVec F S1024x256 .f32) : FVec F S1024x1 .f32 :=
  let v0 : FVec F S1024x256 .f32 := mulf arg0 arg0
  let cst : FVec F S_ .f32 := constant S_ .f32 0x00000000#32
  let v1 : FVec F S1024 .f32 := (fun x v => Host.reduceAdd x v reducesTo_S1024x256_S1024_d1 h_S_) v0 cst
  let v2 : FVec F S1024x1 .f32 := broadcastInDim S1024x1 ![0] bcast_S1024_S1024x1_0 v1
  let v3 : FVec F S1024x1 .f32 := Host.sqrt v2
  v3

def fn_norm_0 {F : FTy → Type} [FloatOps F] (arg0 : FVec F S65536x256 .f32) : FVec F S65536x1 .f32 :=
  let v0 : FVec F S65536x256 .f32 := mulf arg0 arg0
  let cst : FVec F S_ .f32 := constant S_ .f32 0x00000000#32
  let v1 : FVec F S65536 .f32 := (fun x v => Host.reduceAdd x v reducesTo_S65536x256_S65536_d1 h_S_) v0 cst
  let v2 : FVec F S65536x1 .f32 := broadcastInDim S65536x1 ![0] bcast_S65536_S65536x1_0 v1
  let v3 : FVec F S65536x1 .f32 := Host.sqrt v2
  v3

def fn_part1 {F : FTy → Type} [FloatOps F] (main_v18 : IVec S1024 1) : IVec S1024 1 × IVec S65536x256 1 × IVec S65536 1 × IVec S65536 1 :=
  let main_c : IVec S_ 1 := constantI S_ 1 1#1
  let main_v19 : IVec S65536x256 1 := broadcastInDim S65536x256 ![] bcast_S_S65536x256 main_c
  let main_c_2 : IVec S_ 1 := constantI S_ 1 1#1
  let main_v20 : IVec S65536 1 := broadcastInDim S65536 ![] bcast_S_S65536 main_c_2
  let main_c_3 : IVec S_ 1 := constantI S_ 1 1#1
  let main_v21 : IVec S65536 1 := broadcastInDim S65536 ![] bcast_S_S65536 main_c_3
  (main_v18, main_v19, main_v20, main_v21)

def fn {F : FTy → Type} [FloatOps F] (main_arg0 : FVec F S1024x256 .f32) (main_arg1 : IVec S1024 32) (main_arg2 : FVec F S65536x256 .f32) (main_arg3 : IVec S65536 32) (main_arg4 : IVec S65536 32) : IVec S1024 1 × IVec S65536x256 1 × IVec S65536 1 × IVec S65536 1 :=
  let main_v0 : FVec F S1024x1 .f32 := fn_norm (F := F) main_arg0
  let main_cst : FVec F S_ .f32 := constant S_ .f32 0x2B8CBCCC#32
  let main_v1 : FVec F S1024x1 .f32 := broadcastInDim S1024x1 ![] bcast_S_S1024x1 main_cst
  let main_v2 : FVec F S1024x1 .f32 := maximumf main_v0 main_v1
  let main_v3 : FVec F S1024x256 .f32 := broadcastInDim S1024x256 ![0, 1] bcast_S1024x1_S1024x256_0_1 main_v2
  let main_v4 : FVec F S1024x256 .f32 := Host.divf main_arg0 main_v3
  let main_v5 : FVec F S65536x1 .f32 := fn_norm_0 (F := F) main_arg2
  let main_cst_0 : FVec F S_ .f32 := constant S_ .f32 0x2B8CBCCC#32
  let main_v6 : FVec F S65536x1 .f32 := broadcastInDim S65536x1 ![] bcast_S_S65536x1 main_cst_0
  let main_v7 : FVec F S65536x1 .f32 := maximumf main_v5 main_v6
  let main_v8 : FVec F S65536x256 .f32 := broadcastInDim S65536x256 ![0, 1] bcast_S65536x1_S65536x256_0_1 main_v7
  let main_v9 : FVec F S65536x256 .f32 := Host.divf main_arg2 main_v8
  let main_v10 : FVec F S256x65536 .f32 := (transpose S256x65536 [1, 0] · transposes_S65536x256_S256x65536_1_0) main_v9
  let main_v11 : FVec F S1024x65536 .f32 := (fun l r => Host.dotGeneral dot_S1024x256_S256x65536_S1024x65536_1_0_0_1_n_n none l r) main_v4 main_v10
  let main_values : FVec F S1024x257 .f32 := (fun x => (Host.topK S1024x257 1 (FloatOps.cmpfTotal .gt) x sliceFits_S1024x65536_S1024x257).1) main_v11
  let main_indices : IVec S1024x257 32 := (fun x => (Host.topK S1024x257 1 (FloatOps.cmpfTotal .gt) x sliceFits_S1024x65536_S1024x257).2) main_v11
  let main_v12 : FVec F S1024x1 .f32 := (extractStridedSlice S1024x1 ![0, 255] · slices_S1024x257_S1024x1_0_255) main_values
  let main_v13 : FVec F S1024 .f32 := shapeCast S1024 main_v12 shapeCasts_S1024x1_S1024
  let main_v14 : FVec F S1024x1 .f32 := (extractStridedSlice S1024x1 ![0, 256] · slices_S1024x257_S1024x1_0_256) main_values
  let main_v15 : FVec F S1024 .f32 := shapeCast S1024 main_v14 shapeCasts_S1024x1_S1024
  let main_v16 : FVec F S1024 .f32 := subf main_v13 main_v15
  let main_cst_1 : FVec F S_ .f32 := constant S_ .f32 0x33800000#32
  let main_v17 : FVec F S1024 .f32 := broadcastInDim S1024 ![] bcast_S_S1024 main_cst_1
  let main_v18 : IVec S1024 1 := cmpf .oge main_v16 main_v17
  fn_part1 (F := F) main_v18
-- ==== Kernel.lean ====
abbrev S1024x256 : Shape := ⟨2, ![1024, 256]⟩
abbrev S1024 : Shape := ⟨1, ![1024]⟩
abbrev S65536x256 : Shape := ⟨2, ![65536, 256]⟩
abbrev S65536 : Shape := ⟨1, ![65536]⟩
abbrev S_ : Shape := ⟨0, ![]⟩
abbrev S1024x1 : Shape := ⟨2, ![1024, 1]⟩
abbrev S1024x65536 : Shape := ⟨2, ![1024, 65536]⟩
abbrev S2048x256 : Shape := ⟨2, ![2048, 256]⟩
abbrev S1024x2048 : Shape := ⟨2, ![1024, 2048]⟩
abbrev S2048 : Shape := ⟨1, ![2048]⟩
abbrev S2048x1 : Shape := ⟨2, ![2048, 1]⟩
abbrev S1x65536 : Shape := ⟨2, ![1, 65536]⟩
abbrev S1024x128 : Shape := ⟨2, ![1024, 128]⟩
abbrev S32x65536 : Shape := ⟨2, ![32, 65536]⟩
abbrev S32x128 : Shape := ⟨2, ![32, 128]⟩
abbrev S32x1 : Shape := ⟨2, ![32, 1]⟩
abbrev S32 : Shape := ⟨1, ![32]⟩
abbrev S1 : Shape := ⟨1, ![1]⟩
abbrev S1x1 : Shape := ⟨2, ![1, 1]⟩

abbrev nBuf : Space → Nat
  | .hbm => 259
  | .vmem => 12
  | .smem => 0
  | _ => 0

abbrev hbmTy0_0 (i : Nat) : BufTy := match i % 128 with
  | 0 => ⟨S1024x256, .f32⟩
  | 1 => ⟨S1024, .i32⟩
  | 2 => ⟨S65536x256, .f32⟩
  | 3 => ⟨S65536, .i32⟩
  | 4 => ⟨S65536, .i32⟩
  | 5 => ⟨S1024x256, .f32⟩
  | 6 => ⟨S_, .f32⟩
  | 7 => ⟨S1024, .f32⟩
  | 8 => ⟨S1024x1, .f32⟩
  | 9 => ⟨S1024x1, .f32⟩
  | 10 => ⟨S_, .f32⟩
  | 11 => ⟨S1024x1, .f32⟩
  | 12 => ⟨S1024x1, .f32⟩
  | 13 => ⟨S1024x256, .f32⟩
  | 14 => ⟨S1024x256, .f32⟩
  | 15 => ⟨S1024x65536, .f32⟩
  | 16 => ⟨S65536, .f32⟩
  | 17 => ⟨S1x65536, .f32⟩
  | 18 => ⟨S1024x128, .f32⟩
  | 19 => ⟨S1024x128, .i32⟩
  | 20 => ⟨S1024x1, .f32⟩
  | 21 => ⟨S1024, .f32⟩
  | 22 => ⟨S1024x1, .i32⟩
  | 23 => ⟨S1024, .i32⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S1, .i32⟩
  | 33 => ⟨S_, .i32⟩
  | 34 => ⟨S1024x1, .i32⟩
  | 35 => ⟨S1024x1, .i1⟩
  | 36 => ⟨S1x1, .i32⟩
  | 37 => ⟨S1024x1, .i32⟩
  | 38 => ⟨S1024x1, .i1⟩
  | 39 => ⟨S1024x1, .i1⟩
  | 40 => ⟨S_, .i1⟩
  | 41 => ⟨S1024, .i1⟩
  | 42 => ⟨S1024, .i32⟩
  | 43 => ⟨S_, .i32⟩
  | 44 => ⟨S1024, .i32⟩
  | 45 => ⟨S1024, .i32⟩
  | 46 => ⟨S1024, .i1⟩
  | 47 => ⟨S_, .i32⟩
  | 48 => ⟨S1024, .i32⟩
  | 49 => ⟨S1024, .i1⟩
  | 50 => ⟨S_, .i32⟩
  | 51 => ⟨S1024, .i32⟩
  | 52 => ⟨S1024, .i32⟩
  | 53 => ⟨S1024, .i32⟩
  | 54 => ⟨S1024x1, .i32⟩
  | 55 => ⟨S1, .i32⟩
  | 56 => ⟨S_, .i32⟩
  | 57 => ⟨S1024x1, .i32⟩
  | 58 => ⟨S1024x1, .i1⟩
  | 59 => ⟨S1x1, .i32⟩
  | 60 => ⟨S1024x1, .i32⟩
  | 61 => ⟨S1024x1, .i1⟩
  | 62 => ⟨S1024x1, .i1⟩
  | 63 => ⟨S_, .i1⟩
  | 64 => ⟨S1024, .i1⟩
  | 65 => ⟨S1024x256, .f32⟩
  | 66 => ⟨S1024x256, .i1⟩
  | 67 => ⟨S_, .f32⟩
  | 68 => ⟨S1024x256, .f32⟩
  | 69 => ⟨S1024x256, .f32⟩
  | 70 => ⟨S1024x256, .f32⟩
  | 71 => ⟨S1024x256, .f32⟩
  | 72 => ⟨S_, .f32⟩
  | 73 => ⟨S1024, .f32⟩
  | 74 => ⟨S1024x1, .f32⟩
  | 75 => ⟨S1024x1, .f32⟩
  | 76 => ⟨S_, .f32⟩
  | 77 => ⟨S1024x1, .f32⟩
  | 78 => ⟨S1024x1, .f32⟩
  | 79 => ⟨S1024x256, .f32⟩
  | 80 => ⟨S1024x256, .f32⟩
  | 81 => ⟨S1024x1, .i1⟩
  | 82 => ⟨S_, .i32⟩
  | 83 => ⟨S1024, .i32⟩
  | 84 => ⟨S1024, .i1⟩
  | 85 => ⟨S_, .i32⟩
  | 86 => ⟨S1024, .i32⟩
  | 87 => ⟨S1024, .i32⟩
  | 88 => ⟨S1024, .i32⟩
  | 89 => ⟨S1024x1, .i32⟩
  | 90 => ⟨S1, .i32⟩
  | 91 => ⟨S_, .i32⟩
  | 92 => ⟨S1024x1, .i32⟩
  | 93 => ⟨S1024x1, .i1⟩
  | 94 => ⟨S1x1, .i32⟩
  | 95 => ⟨S1024x1, .i32⟩
  | 96 => ⟨S1024x1, .i1⟩
  | 97 => ⟨S1024x1, .i1⟩
  | 98 => ⟨S_, .i1⟩
  | 99 => ⟨S1024, .i1⟩
  | 100 => ⟨S1024x256, .f32⟩
  | 101 => ⟨S1024x256, .i1⟩
  | 102 => ⟨S_, .f32⟩
  | 103 => ⟨S1024x256, .f32⟩
  | 104 => ⟨S1024x256, .f32⟩
  | 105 => ⟨S1024x256, .i1⟩
  | 106 => ⟨S1024x256, .f32⟩
  | 107 => ⟨S_, .i32⟩
  | 108 => ⟨S1024, .i32⟩
  | 109 => ⟨S1024, .i1⟩
  | 110 => ⟨S_, .i32⟩
  | 111 => ⟨S1024, .i32⟩
  | 112 => ⟨S1024, .i32⟩
  | 113 => ⟨S1024, .i32⟩
  | 114 => ⟨S1024x1, .i32⟩
  | 115 => ⟨S65536x256, .f32⟩
  | 116 => ⟨S_, .i32⟩
  | 117 => ⟨S65536, .i32⟩
  | 118 => ⟨S65536, .i32⟩
  | 119 => ⟨S_, .i32⟩
  | 120 => ⟨S1024, .i32⟩
  | 121 => ⟨S1024, .i1⟩
  | 122 => ⟨S_, .i32⟩
  | 123 => ⟨S1024, .i32⟩
  | 124 => ⟨S1024, .i32⟩
  | 125 => ⟨S1024, .i32⟩
  | 126 => ⟨S1024x1, .i32⟩
  | 127 => ⟨S1, .i32⟩
  | _ => ⟨S1024x256, .f32⟩

abbrev hbmTy0_1 (i : Nat) : BufTy := match i % 128 with
  | 0 => ⟨S_, .i32⟩
  | 1 => ⟨S1024x1, .i32⟩
  | 2 => ⟨S1024x1, .i1⟩
  | 3 => ⟨S1x1, .i32⟩
  | 4 => ⟨S1024x1, .i32⟩
  | 5 => ⟨S1024x1, .i1⟩
  | 6 => ⟨S1024x1, .i1⟩
  | 7 => ⟨S_, .i1⟩
  | 8 => ⟨S1024, .i1⟩
  | 9 => ⟨S1024, .i32⟩
  | 10 => ⟨S_, .i32⟩
  | 11 => ⟨S1024, .i32⟩
  | 12 => ⟨S1024, .i32⟩
  | 13 => ⟨S_, .i32⟩
  | 14 => ⟨S_, .i32⟩
  | 15 => ⟨S1024, .i32⟩
  | 16 => ⟨S1024, .i32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S65536, .i32⟩
  | 26 => ⟨S65536, .f32⟩
  | 27 => ⟨S1024, .f32⟩
  | 28 => ⟨S1024, .i32⟩
  | 29 => ⟨S1024x1, .i1⟩
  | 30 => ⟨S_, .i32⟩
  | 31 => ⟨S1024, .i32⟩
  | 32 => ⟨S1024, .i1⟩
  | 33 => ⟨S_, .i32⟩
  | 34 => ⟨S1024, .i32⟩
  | 35 => ⟨S1024, .i32⟩
  | 36 => ⟨S1024, .i32⟩
  | 37 => ⟨S1024x1, .i32⟩
  | 38 => ⟨S1, .i32⟩
  | 39 => ⟨S_, .i32⟩
  | 40 => ⟨S1024x1, .i32⟩
  | 41 => ⟨S1024x1, .i1⟩
  | 42 => ⟨S1x1, .i32⟩
  | 43 => ⟨S1024x1, .i32⟩
  | 44 => ⟨S1024x1, .i1⟩
  | 45 => ⟨S1024x1, .i1⟩
  | 46 => ⟨S_, .i1⟩
  | 47 => ⟨S1024, .i1⟩
  | 48 => ⟨S1024x256, .f32⟩
  | 49 => ⟨S1024x256, .i1⟩
  | 50 => ⟨S_, .f32⟩
  | 51 => ⟨S1024x256, .f32⟩
  | 52 => ⟨S1024x256, .f32⟩
  | 53 => ⟨S1024x256, .i1⟩
  | 54 => ⟨S1024x256, .f32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S65536x256, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S1, .i32⟩
  | 73 => ⟨S_, .i32⟩
  | 74 => ⟨S1024x1, .i32⟩
  | 75 => ⟨S1024x1, .i1⟩
  | 76 => ⟨S1x1, .i32⟩
  | 77 => ⟨S1024x1, .i32⟩
  | 78 => ⟨S1024x1, .i1⟩
  | 79 => ⟨S1024x1, .i1⟩
  | 80 => ⟨S_, .i1⟩
  | 81 => ⟨S1024, .i1⟩
  | 82 => ⟨S1024, .i32⟩
  | 83 => ⟨S_, .i32⟩
  | 84 => ⟨S1024, .i32⟩
  | 85 => ⟨S1024, .i32⟩
  | 86 => ⟨S1024, .i32⟩
  | 87 => ⟨S_, .i32⟩
  | 88 => ⟨S1024, .i32⟩
  | 89 => ⟨S1024, .i1⟩
  | 90 => ⟨S_, .i32⟩
  | 91 => ⟨S1024, .i32⟩
  | 92 => ⟨S1024, .i32⟩
  | 93 => ⟨S1024, .i32⟩
  | 94 => ⟨S1024x1, .i32⟩
  | 95 => ⟨S65536, .i32⟩
  | 96 => ⟨S_, .i32⟩
  | 97 => ⟨S1024, .i32⟩
  | 98 => ⟨S1024, .i1⟩
  | 99 => ⟨S_, .i32⟩
  | 100 => ⟨S1024, .i32⟩
  | 101 => ⟨S1024, .i32⟩
  | 102 => ⟨S1024, .i32⟩
  | 103 => ⟨S1024x1, .i32⟩
  | 104 => ⟨S1, .i32⟩
  | 105 => ⟨S_, .i32⟩
  | 106 => ⟨S1024x1, .i32⟩
  | 107 => ⟨S1024x1, .i1⟩
  | 108 => ⟨S1x1, .i32⟩
  | 109 => ⟨S1024x1, .i32⟩
  | 110 => ⟨S1024x1, .i1⟩
  | 111 => ⟨S1024x1, .i1⟩
  | 112 => ⟨S_, .i1⟩
  | 113 => ⟨S1024, .i1⟩
  | 114 => ⟨S1024, .i32⟩
  | 115 => ⟨S_, .i32⟩
  | 116 => ⟨S1024, .i32⟩
  | 117 => ⟨S1024, .i32⟩
  | 118 => ⟨S_, .i32⟩
  | 119 => ⟨S_, .i32⟩
  | 120 => ⟨S1024, .i32⟩
  | 121 => ⟨S1024, .i32⟩
  | 122 => ⟨S_, .i32⟩
  | 123 => ⟨S1024, .i32⟩
  | 124 => ⟨S1024, .i1⟩
  | 125 => ⟨S_, .i32⟩
  | 126 => ⟨S1024, .i32⟩
  | 127 => ⟨S1024, .i32⟩
  | _ => ⟨S1024x256, .f32⟩

abbrev hbmTy0_2 (i : Nat) : BufTy := match i % 128 with
  | 0 => ⟨S1024, .i32⟩
  | 1 => ⟨S1024x1, .i32⟩
  | 2 => ⟨S65536, .i32⟩
  | _ => ⟨S1024x256, .f32⟩

abbrev hbmTy (i : Nat) : BufTy := match i / 128 with
  | 0 => hbmTy0_0 i
  | 1 => hbmTy0_1 i
  | 2 => hbmTy0_2 i
  | _ => ⟨S1024x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S2048x256, .f32⟩
  | .local _ .vmem, ⟨2, _⟩ => ⟨S2048x256, .f32⟩
  | .local _ .vmem, ⟨3, _⟩ => ⟨S1024x2048, .f32⟩
  | .local _ .vmem, ⟨4, _⟩ => ⟨S1024x2048, .f32⟩
  | .local _ .vmem, ⟨5, _⟩ => ⟨S32x65536, .f32⟩
  | .local _ .vmem, ⟨6, _⟩ => ⟨S32x65536, .f32⟩
  | .local _ .vmem, ⟨7, _⟩ => ⟨S1x65536, .f32⟩
  | .local _ .vmem, ⟨8, _⟩ => ⟨S32x128, .f32⟩
  | .local _ .vmem, ⟨9, _⟩ => ⟨S32x128, .f32⟩
  | .local _ .vmem, ⟨10, _⟩ => ⟨S32x128, .i32⟩
  | .local _ .vmem, ⟨11, _⟩ => ⟨S32x128, .i32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_c_4 : Ref sig .tc := ⟨.hbm, 43, rfl⟩
abbrev main_call0_v14 : Ref sig .tc := ⟨.hbm, 44, rfl⟩
abbrev main_v16 : Ref sig .tc := ⟨.hbm, 45, rfl⟩
abbrev main_v17 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_1 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_cst_2 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v29 : Ref sig .tc := ⟨.hbm, 104, rfl⟩
abbrev main_call3_v0 : Ref sig .tc := ⟨.hbm, 105, rfl⟩
abbrev main_v30 : Ref sig .tc := ⟨.hbm, 106, rfl⟩
abbrev main_c : Ref sig .tc := ⟨.hbm, 107, rfl⟩
abbrev main_v31 : Ref sig .tc := ⟨.hbm, 108, rfl⟩
abbrev main_v32 : Ref sig .tc := ⟨.hbm, 109, rfl⟩
abbrev main_c_3 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_c_4 : Ref sig .tc := ⟨.hbm, 116, rfl⟩
abbrev main_v38 : Ref sig .tc := ⟨.hbm, 117, rfl⟩
abbrev main_v39 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_c_4 : Ref sig .tc := ⟨.hbm, 138, rfl⟩
abbrev main_call4_v14 : Ref sig .tc := ⟨.hbm, 139, rfl⟩
abbrev main_v40 : Ref sig .tc := ⟨.hbm, 140, rfl⟩
abbrev main_c_5 : Ref sig .tc := ⟨.hbm, 141, rfl⟩
abbrev main_call5_v0 : Ref sig .tc := ⟨.hbm, 142, rfl⟩
abbrev main_call5_v1 : Ref sig .tc := ⟨.hbm, 143, rfl⟩
abbrev main_v41 : Ref sig .tc := ⟨.hbm, 144, rfl⟩
abbrev main_c_6 : Ref sig .tc := ⟨.hbm, 145, rfl⟩
abbrev main_v42 : Ref sig .tc := ⟨.hbm, 146, rfl⟩
abbrev main_v43 : Ref sig .tc := ⟨.hbm, 147, rfl⟩
abbrev main_c_7 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_values : Ref sig .tc := ⟨.hbm, 155, rfl⟩
abbrev main_indices : Ref sig .tc := ⟨.hbm, 156, rfl⟩
abbrev main_v50 : Ref sig .tc := ⟨.hbm, 157, rfl⟩
abbrev main_call6_c : Ref sig .tc := ⟨.hbm, 158, rfl⟩
abbrev main_call6_v0 : Ref sig .tc := ⟨.hbm, 159, rfl⟩
abbrev main_call6_v1 : Ref sig .tc := ⟨.hbm, 160, rfl⟩
abbrev main_call6_c_0 : Ref sig .tc := ⟨.hbm, 161, rfl⟩
abbrev main_call6_v2 : Ref sig .tc := ⟨.hbm, 162, rfl⟩
abbrev main_call6_v3 : Ref sig .tc := ⟨.hbm, 163, rfl⟩
abbrev main_call6_v4 : Ref sig .tc := ⟨.hbm, 164, rfl⟩
abbrev main_call6_v5 : Ref sig .tc := ⟨.hbm, 165, rfl⟩
abbrev main_call6_c_1 : Ref sig .tc := ⟨.hbm, 166, rfl⟩
abbrev main_call6_c_2 : Ref sig .tc := ⟨.hbm, 167, rfl⟩
abbrev main_call6_v6 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_call6_v11 : Ref sig .tc := ⟨.hbm, 173, rfl⟩
abbrev main_call6_c_3 : Ref sig .tc := ⟨.hbm, 174, rfl⟩
abbrev main_call6_v12 : Ref sig .tc := ⟨.hbm, 175, rfl⟩
abbrev main_call6_v13 : Ref sig .tc := ⟨.hbm, 176, rfl⟩
abbrev main_call6_v14 : Ref sig .tc := ⟨.hbm, 177, rfl⟩
abbrev main_call6_cst : Ref sig .tc := ⟨.hbm, 178, rfl⟩
abbrev main_call6_v15 : Ref sig .tc := ⟨.hbm, 179, rfl⟩
abbrev main_v51 : Ref sig .tc := ⟨.hbm, 180, rfl⟩
abbrev main_call7_v0 : Ref sig .tc := ⟨.hbm, 181, rfl⟩
abbrev main_v52 : Ref sig .tc := ⟨.hbm, 182, rfl⟩
abbrev main_c_8 : Ref sig .tc := ⟨.hbm, 183, rfl⟩
abbrev main_v53 : Ref sig .tc := ⟨.hbm, 184, rfl⟩
abbrev main_v54 : Ref sig .tc := ⟨.hbm, 185, rfl⟩
abbrev main_c_9 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_v59 : Ref sig .tc := ⟨.hbm, 191, rfl⟩
abbrev main_call8_c : Ref sig .tc := ⟨.hbm, 192, rfl⟩
abbrev main_call8_v0 : Ref sig .tc := ⟨.hbm, 193, rfl⟩
abbrev main_call8_v1 : Ref sig .tc := ⟨.hbm, 194, rfl⟩
abbrev main_call8_c_0 : Ref sig .tc := ⟨.hbm, 195, rfl⟩
abbrev main_call8_v2 : Ref sig .tc := ⟨.hbm, 196, rfl⟩
abbrev main_call8_v3 : Ref sig .tc := ⟨.hbm, 197, rfl⟩
abbrev main_call8_v4 : Ref sig .tc := ⟨.hbm, 198, rfl⟩
abbrev main_call8_v5 : Ref sig .tc := ⟨.hbm, 199, rfl⟩
abbrev main_call8_c_1 : Ref sig .tc := ⟨.hbm, 200, rfl⟩
abbrev main_call8_c_2 : Ref sig .tc := ⟨.hbm, 201, rfl⟩
abbrev main_call8_v6 : Ref sig .tc := ⟨.hbm, 202, rfl⟩
abbrev main_call8_v7 : Ref sig .tc := ⟨.hbm, 203, rfl⟩
abbrev main_call8_v8 : Ref sig .tc := ⟨.hbm, 204, rfl⟩
abbrev main_call8_v9 : Ref sig .tc := ⟨.hbm, 205, rfl⟩
abbrev main_call8_v10 : Ref sig .tc := ⟨.hbm, 206, rfl⟩
abbrev main_call8_v11 : Ref sig .tc := ⟨.hbm, 207, rfl⟩
abbrev main_call8_c_3 : Ref sig .tc := ⟨.hbm, 208, rfl⟩
abbrev main_call8_v12 : Ref sig .tc := ⟨.hbm, 209, rfl⟩
abbrev main_call8_v13 : Ref sig .tc := ⟨.hbm, 210, rfl⟩
abbrev main_call8_c_4 : Ref sig .tc := ⟨.hbm, 211, rfl⟩
abbrev main_call8_v14 : Ref sig .tc := ⟨.hbm, 212, rfl⟩
abbrev main_v60 : Ref sig .tc := ⟨.hbm, 213, rfl⟩
abbrev main_v61 : Ref sig .tc := ⟨.hbm, 214, rfl⟩
abbrev main_c_10 : Ref sig .tc := ⟨.hbm, 215, rfl⟩
abbrev main_v62 : Ref sig .tc := ⟨.hbm, 216, rfl⟩
abbrev main_v63 : Ref sig .tc := ⟨.hbm, 217, rfl⟩
abbrev main_c_11 : Ref sig .tc := ⟨.hbm, 218, rfl⟩
abbrev main_v64 : Ref sig .tc := ⟨.hbm, 219, rfl⟩
abbrev main_v65 : Ref sig .tc := ⟨.hbm, 220, rfl⟩
abbrev main_v66 : Ref sig .tc := ⟨.hbm, 221, rfl⟩
abbrev main_v67 : Ref sig .tc := ⟨.hbm, 222, rfl⟩
abbrev main_v68 : Ref sig .tc := ⟨.hbm, 223, rfl⟩
abbrev main_call10_c : Ref sig .tc := ⟨.hbm, 224, rfl⟩
abbrev main_call10_v0 : Ref sig .tc := ⟨.hbm, 225, rfl⟩
abbrev main_call10_v1 : Ref sig .tc := ⟨.hbm, 226, rfl⟩
abbrev main_call10_c_0 : Ref sig .tc := ⟨.hbm, 227, rfl⟩
abbrev main_call10_v2 : Ref sig .tc := ⟨.hbm, 228, rfl⟩
abbrev main_call10_v3 : Ref sig .tc := ⟨.hbm, 229, rfl⟩
abbrev main_call10_v4 : Ref sig .tc := ⟨.hbm, 230, rfl⟩
abbrev main_call10_v5 : Ref sig .tc := ⟨.hbm, 231, rfl⟩
abbrev main_call10_c_1 : Ref sig .tc := ⟨.hbm, 232, rfl⟩
abbrev main_call10_c_2 : Ref sig .tc := ⟨.hbm, 233, rfl⟩
abbrev main_call10_v6 : Ref sig .tc := ⟨.hbm, 234, rfl⟩
abbrev main_call10_v7 : Ref sig .tc := ⟨.hbm, 235, rfl⟩
abbrev main_call10_v8 : Ref sig .tc := ⟨.hbm, 236, rfl⟩
abbrev main_call10_v9 : Ref sig .tc := ⟨.hbm, 237, rfl⟩
abbrev main_call10_v10 : Ref sig .tc := ⟨.hbm, 238, rfl⟩
abbrev main_call10_v11 : Ref sig .tc := ⟨.hbm, 239, rfl⟩
abbrev main_call10_c_3 : Ref sig .tc := ⟨.hbm, 240, rfl⟩
abbrev main_call10_v12 : Ref sig .tc := ⟨.hbm, 241, rfl⟩
abbrev main_call10_v13 : Ref sig .tc := ⟨.hbm, 242, rfl⟩
abbrev main_call10_c_4 : Ref sig .tc := ⟨.hbm, 243, rfl⟩
abbrev main_call10_v14 : Ref sig .tc := ⟨.hbm, 244, rfl⟩
abbrev main_v69 : Ref sig .tc := ⟨.hbm, 245, rfl⟩
abbrev main_c_12 : Ref sig .tc := ⟨.hbm, 246, rfl⟩
abbrev main_call11_v0 : Ref sig .tc := ⟨.hbm, 247, rfl⟩
abbrev main_call11_v1 : Ref sig .tc := ⟨.hbm, 248, rfl⟩
abbrev main_v70 : Ref sig .tc := ⟨.hbm, 249, rfl⟩
abbrev main_c_13 : Ref sig .tc := ⟨.hbm, 250, rfl⟩
abbrev main_v71 : Ref sig .tc := ⟨.hbm, 251, rfl⟩
abbrev main_v72 : Ref sig .tc := ⟨.hbm, 252, rfl⟩
abbrev main_c_14 : Ref sig .tc := ⟨.hbm, 253, rfl⟩
abbrev main_v73 : Ref sig .tc := ⟨.hbm, 254, rfl⟩
abbrev main_v74 : Ref sig .tc := ⟨.hbm, 255, rfl⟩
abbrev main_v75 : Ref sig .tc := ⟨.hbm, 256, rfl⟩
abbrev main_v76 : Ref sig .tc := ⟨.hbm, 257, rfl⟩
abbrev main_v77 : Ref sig .tc := ⟨.hbm, 258, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x65536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S1024x256 : Shape := ⟨2, ![1024, 256]⟩
abbrev S1024 : Shape := ⟨1, ![1024]⟩
abbrev S65536x256 : Shape := ⟨2, ![65536, 256]⟩
abbrev S65536 : Shape := ⟨1, ![65536]⟩
abbrev S_ : Shape := ⟨0, ![]⟩
abbrev S1024x1 : Shape := ⟨2, ![1024, 1]⟩
abbrev S65536x1 : Shape := ⟨2, ![65536, 1]⟩
abbrev S256x65536 : Shape := ⟨2, ![256, 65536]⟩
abbrev S1024x65536 : Shape := ⟨2, ![1024, 65536]⟩
abbrev S1024x256x1 : Shape := ⟨3, ![1024, 256, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 306
  | .vmem => 0
  | .smem => 0
  | _ => 0

abbrev hbmTy0_0 (i : Nat) : BufTy := match i % 128 with
  | 0 => ⟨S1024x256, .f32⟩
  | 1 => ⟨S1024, .i32⟩
  | 2 => ⟨S65536x256, .f32⟩
  | 3 => ⟨S65536, .i32⟩
  | 4 => ⟨S65536, .i32⟩
  | 5 => ⟨S1024x256, .f32⟩
  | 6 => ⟨S_, .f32⟩
  | 7 => ⟨S1024, .f32⟩
  | 8 => ⟨S1024x1, .f32⟩
  | 9 => ⟨S1024x1, .f32⟩
  | 10 => ⟨S_, .f32⟩
  | 11 => ⟨S1024x1, .f32⟩
  | 12 => ⟨S1024x1, .f32⟩
  | 13 => ⟨S1024x256, .f32⟩
  | 14 => ⟨S1024x256, .f32⟩
  | 15 => ⟨S65536x256, .f32⟩
  | 16 => ⟨S_, .f32⟩
  | 17 => ⟨S65536, .f32⟩
  | 18 => ⟨S65536x1, .f32⟩
  | 19 => ⟨S65536x1, .f32⟩
  | 20 => ⟨S_, .f32⟩
  | 21 => ⟨S65536x1, .f32⟩
  | 22 => ⟨S65536x1, .f32⟩
  | 23 => ⟨S65536x256, .f32⟩
  | 24 => ⟨S65536x256, .f32⟩
  | 25 => ⟨S256x65536, .f32⟩
  | 26 => ⟨S1024x65536, .f32⟩
  | 27 => ⟨S1024x256, .f32⟩
  | 28 => ⟨S1024x256, .i32⟩
  | 29 => ⟨S_, .f32⟩
  | 30 => ⟨S1024, .f32⟩
  | 31 => ⟨S_, .f32⟩
  | 32 => ⟨S1024, .f32⟩
  | 33 => ⟨S1024, .f32⟩
  | 34 => ⟨S1024x1, .f32⟩
  | 35 => ⟨S1024x256, .f32⟩
  | 36 => ⟨S1024x256, .f32⟩
  | 37 => ⟨S1024x256, .f32⟩
  | 38 => ⟨S_, .f32⟩
  | 39 => ⟨S1024, .f32⟩
  | 40 => ⟨S1024x1, .f32⟩
  | 41 => ⟨S1024x256, .f32⟩
  | 42 => ⟨S1024x256, .f32⟩
  | 43 => ⟨S_, .i32⟩
  | 44 => ⟨S1024x256, .i32⟩
  | 45 => ⟨S1024x256, .i1⟩
  | 46 => ⟨S_, .i32⟩
  | 47 => ⟨S1024x256, .i32⟩
  | 48 => ⟨S1024x256, .i32⟩
  | 49 => ⟨S1024x256, .i32⟩
  | 50 => ⟨S1024x256x1, .i32⟩
  | 51 => ⟨S1, .i32⟩
  | 52 => ⟨S_, .i32⟩
  | 53 => ⟨S1024x256x1, .i32⟩
  | 54 => ⟨S1024x256x1, .i1⟩
  | 55 => ⟨S1x1x1, .i32⟩
  | 56 => ⟨S1024x256x1, .i32⟩
  | 57 => ⟨S1024x256x1, .i1⟩
  | 58 => ⟨S1024x256x1, .i1⟩
  | 59 => ⟨S_, .i1⟩
  | 60 => ⟨S1024x256, .i1⟩
  | 61 => ⟨S1024x256, .i32⟩
  | 62 => ⟨S_, .i32⟩
  | 63 => ⟨S1024x256, .i32⟩
  | 64 => ⟨S1024x256, .i32⟩
  | 65 => ⟨S1024x256, .f32⟩
  | 66 => ⟨S1024x256, .f32⟩
  | 67 => ⟨S_, .f32⟩
  | 68 => ⟨S1024, .f32⟩
  | 69 => ⟨S1024x1, .i32⟩
  | 70 => ⟨S1024, .i32⟩
  | 71 => ⟨S_, .i32⟩
  | 72 => ⟨S1024, .i32⟩
  | 73 => ⟨S1024, .i1⟩
  | 74 => ⟨S_, .i32⟩
  | 75 => ⟨S1024, .i32⟩
  | 76 => ⟨S1024, .i32⟩
  | 77 => ⟨S1024, .i32⟩
  | 78 => ⟨S1024x1, .i32⟩
  | 79 => ⟨S1, .i32⟩
  | 80 => ⟨S_, .i32⟩
  | 81 => ⟨S1024x1, .i32⟩
  | 82 => ⟨S1024x1, .i1⟩
  | 83 => ⟨S1x1, .i32⟩
  | 84 => ⟨S1024x1, .i32⟩
  | 85 => ⟨S1024x1, .i1⟩
  | 86 => ⟨S1024x1, .i1⟩
  | 87 => ⟨S_, .i1⟩
  | 88 => ⟨S1024, .i1⟩
  | 89 => ⟨S1024, .i32⟩
  | 90 => ⟨S_, .i32⟩
  | 91 => ⟨S1024, .i32⟩
  | 92 => ⟨S1024, .i32⟩
  | 93 => ⟨S1024, .i1⟩
  | 94 => ⟨S_, .i32⟩
  | 95 => ⟨S1024, .i32⟩
  | 96 => ⟨S1024, .i1⟩
  | 97 => ⟨S_, .i32⟩
  | 98 => ⟨S1024, .i32⟩
  | 99 => ⟨S1024, .i32⟩
  | 100 => ⟨S1024, .i32⟩
  | 101 => ⟨S1024x1, .i32⟩
  | 102 => ⟨S1, .i32⟩
  | 103 => ⟨S_, .i32⟩
  | 104 => ⟨S1024x1, .i32⟩
  | 105 => ⟨S1024x1, .i1⟩
  | 106 => ⟨S1x1, .i32⟩
  | 107 => ⟨S1024x1, .i32⟩
  | 108 => ⟨S1024x1, .i1⟩
  | 109 => ⟨S1024x1, .i1⟩
  | 110 => ⟨S_, .i1⟩
  | 111 => ⟨S1024, .i1⟩
  | 112 => ⟨S1024x256, .f32⟩
  | 113 => ⟨S1024x256, .i1⟩
  | 114 => ⟨S_, .f32⟩
  | 115 => ⟨S1024x256, .f32⟩
  | 116 => ⟨S1024x256, .f32⟩
  | 117 => ⟨S1024x256, .f32⟩
  | 118 => ⟨S1024x256, .f32⟩
  | 119 => ⟨S_, .f32⟩
  | 120 => ⟨S1024, .f32⟩
  | 121 => ⟨S1024x1, .f32⟩
  | 122 => ⟨S1024x1, .f32⟩
  | 123 => ⟨S_, .f32⟩
  | 124 => ⟨S1024x1, .f32⟩
  | 125 => ⟨S1024x1, .f32⟩
  | 126 => ⟨S1024x256, .f32⟩
  | 127 => ⟨S1024x256, .f32⟩
  | _ => ⟨S1024x256, .f32⟩

abbrev hbmTy0_1 (i : Nat) : BufTy := match i % 128 with
  | 0 => ⟨S1024x1, .i1⟩
  | 1 => ⟨S_, .i32⟩
  | 2 => ⟨S1024, .i32⟩
  | 3 => ⟨S1024, .i1⟩
  | 4 => ⟨S_, .i32⟩
  | 5 => ⟨S1024, .i32⟩
  | 6 => ⟨S1024, .i32⟩
  | 7 => ⟨S1024, .i32⟩
  | 8 => ⟨S1024x1, .i32⟩
  | 9 => ⟨S1, .i32⟩
  | 10 => ⟨S_, .i32⟩
  | 11 => ⟨S1024x1, .i32⟩
  | 12 => ⟨S1024x1, .i1⟩
  | 13 => ⟨S1x1, .i32⟩
  | 14 => ⟨S1024x1, .i32⟩
  | 15 => ⟨S1024x1, .i1⟩
  | 16 => ⟨S1024x1, .i1⟩
  | 17 => ⟨S_, .i1⟩
  | 18 => ⟨S1024, .i1⟩
  | 19 => ⟨S1024x256, .f32⟩
  | 20 => ⟨S1024x256, .i1⟩
  | 21 => ⟨S_, .f32⟩
  | 22 => ⟨S1024x256, .f32⟩
  | 23 => ⟨S1024x256, .f32⟩
  | 24 => ⟨S1024x256, .i1⟩
  | 25 => ⟨S1024x256, .f32⟩
  | 26 => ⟨S_, .i32⟩
  | 27 => ⟨S1024, .i32⟩
  | 28 => ⟨S1024, .i1⟩
  | 29 => ⟨S_, .i32⟩
  | 30 => ⟨S1024, .i32⟩
  | 31 => ⟨S1024, .i32⟩
  | 32 => ⟨S1024, .i32⟩
  | 33 => ⟨S1024x1, .i32⟩
  | 34 => ⟨S65536x256, .f32⟩
  | 35 => ⟨S_, .i32⟩
  | 36 => ⟨S65536, .i32⟩
  | 37 => ⟨S65536, .i32⟩
  | 38 => ⟨S_, .i32⟩
  | 39 => ⟨S1024, .i32⟩
  | 40 => ⟨S1024, .i1⟩
  | 41 => ⟨S_, .i32⟩
  | 42 => ⟨S1024, .i32⟩
  | 43 => ⟨S1024, .i32⟩
  | 44 => ⟨S1024, .i32⟩
  | 45 => ⟨S1024x1, .i32⟩
  | 46 => ⟨S1, .i32⟩
  | 47 => ⟨S_, .i32⟩
  | 48 => ⟨S1024x1, .i32⟩
  | 49 => ⟨S1024x1, .i1⟩
  | 50 => ⟨S1x1, .i32⟩
  | 51 => ⟨S1024x1, .i32⟩
  | 52 => ⟨S1024x1, .i1⟩
  | 53 => ⟨S1024x1, .i1⟩
  | 54 => ⟨S_, .i1⟩
  | 55 => ⟨S1024, .i1⟩
  | 56 => ⟨S1024, .i32⟩
  | 57 => ⟨S_, .i32⟩
  | 58 => ⟨S1024, .i32⟩
  | 59 => ⟨S1024, .i32⟩
  | 60 => ⟨S_, .i32⟩
  | 61 => ⟨S_, .i32⟩
  | 62 => ⟨S1024, .i32⟩
  | 63 => ⟨S1024, .i32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S65536, .i32⟩
  | 73 => ⟨S65536, .f32⟩
  | 74 => ⟨S1024, .f32⟩
  | 75 => ⟨S1024, .i32⟩
  | 76 => ⟨S1024x1, .i1⟩
  | 77 => ⟨S_, .i32⟩
  | 78 => ⟨S1024, .i32⟩
  | 79 => ⟨S1024, .i1⟩
  | 80 => ⟨S_, .i32⟩
  | 81 => ⟨S1024, .i32⟩
  | 82 => ⟨S1024, .i32⟩
  | 83 => ⟨S1024, .i32⟩
  | 84 => ⟨S1024x1, .i32⟩
  | 85 => ⟨S1, .i32⟩
  | 86 => ⟨S_, .i32⟩
  | 87 => ⟨S1024x1, .i32⟩
  | 88 => ⟨S1024x1, .i1⟩
  | 89 => ⟨S1x1, .i32⟩
  | 90 => ⟨S1024x1, .i32⟩
  | 91 => ⟨S1024x1, .i1⟩
  | 92 => ⟨S1024x1, .i1⟩
  | 93 => ⟨S_, .i1⟩
  | 94 => ⟨S1024, .i1⟩
  | 95 => ⟨S1024x256, .f32⟩
  | 96 => ⟨S1024x256, .i1⟩
  | 97 => ⟨S_, .f32⟩
  | 98 => ⟨S1024x256, .f32⟩
  | 99 => ⟨S1024x256, .f32⟩
  | 100 => ⟨S1024x256, .i1⟩
  | 101 => ⟨S1024x256, .f32⟩
  | 102 => ⟨S_, .i32⟩
  | 103 => ⟨S1024, .i32⟩
  | 104 => ⟨S1024, .i1⟩
  | 105 => ⟨S_, .i32⟩
  | 106 => ⟨S1024, .i32⟩
  | 107 => ⟨S1024, .i32⟩
  | 108 => ⟨S1024, .i32⟩
  | 109 => ⟨S1024x1, .i32⟩
  | 110 => ⟨S65536x256, .f32⟩
  | 111 => ⟨S_, .i32⟩
  | 112 => ⟨S1024, .i32⟩
  | 113 => ⟨S1024, .i1⟩
  | 114 => ⟨S_, .i32⟩
  | 115 => ⟨S1024, .i32⟩
  | 116 => ⟨S1024, .i32⟩
  | 117 => ⟨S1024, .i32⟩
  | 118 => ⟨S1024x1, .i32⟩
  | 119 => ⟨S1, .i32⟩
  | 120 => ⟨S_, .i32⟩
  | 121 => ⟨S1024x1, .i32⟩
  | 122 => ⟨S1024x1, .i1⟩
  | 123 => ⟨S1x1, .i32⟩
  | 124 => ⟨S1024x1, .i32⟩
  | 125 => ⟨S1024x1, .i1⟩
  | 126 => ⟨S1024x1, .i1⟩
  | 127 => ⟨S_, .i1⟩
  | _ => ⟨S1024x256, .f32⟩

abbrev hbmTy0_2 (i : Nat) : BufTy := match i % 128 with
  | 0 => ⟨S1024, .i1⟩
  | 1 => ⟨S1024, .i32⟩
  | 2 => ⟨S_, .i32⟩
  | 3 => ⟨S1024, .i32⟩
  | 4 => ⟨S1024, .i32⟩
  | 5 => ⟨S1024, .i32⟩
  | 6 => ⟨S_, .i32⟩
  | 7 => ⟨S1024, .i32⟩
  | 8 => ⟨S1024, .i1⟩
  | 9 => ⟨S_, .i32⟩
  | 10 => ⟨S1024, .i32⟩
  | 11 => ⟨S1024, .i32⟩
  | 12 => ⟨S1024, .i32⟩
  | 13 => ⟨S1024x1, .i32⟩
  | 14 => ⟨S65536, .i32⟩
  | 15 => ⟨S_, .i32⟩
  | 16 => ⟨S1024, .i32⟩
  | 17 => ⟨S1024, .i1⟩
  | 18 => ⟨S_, .i32⟩
  | 19 => ⟨S1024, .i32⟩
  | 20 => ⟨S1024, .i32⟩
  | 21 => ⟨S1024, .i32⟩
  | 22 => ⟨S1024x1, .i32⟩
  | 23 => ⟨S1, .i32⟩
  | 24 => ⟨S_, .i32⟩
  | 25 => ⟨S1024x1, .i32⟩
  | 26 => ⟨S1024x1, .i1⟩
  | 27 => ⟨S1x1, .i32⟩
  | 28 => ⟨S1024x1, .i32⟩
  | 29 => ⟨S1024x1, .i1⟩
  | 30 => ⟨S1024x1, .i1⟩
  | 31 => ⟨S_, .i1⟩
  | 32 => ⟨S1024, .i1⟩
  | 33 => ⟨S1024, .i32⟩
  | 34 => ⟨S_, .i32⟩
  | 35 => ⟨S1024, .i32⟩
  | 36 => ⟨S1024, .i32⟩
  | 37 => ⟨S_, .i32⟩
  | 38 => ⟨S_, .i32⟩
  | 39 => ⟨S1024, .i32⟩
  | 40 => ⟨S1024, .i32⟩
  | 41 => ⟨S_, .i32⟩
  | 42 => ⟨S1024, .i32⟩
  | 43 => ⟨S1024, .i1⟩
  | 44 => ⟨S_, .i32⟩
  | 45 => ⟨S1024, .i32⟩
  | 46 => ⟨S1024, .i32⟩
  | 47 => ⟨S1024, .i32⟩
  | 48 => ⟨S1024x1, .i32⟩
  | 49 => ⟨S65536, .i32⟩
  | _ => ⟨S1024x256, .f32⟩

abbrev hbmTy (i : Nat) : BufTy := match i / 128 with
  | 0 => hbmTy0_0 i
  | 1 => hbmTy0_1 i
  | 2 => hbmTy0_2 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_values : Ref sig .tc := ⟨.hbm, 27, rfl⟩
abbrev main_indices : Ref sig .tc := ⟨.hbm, 28, rfl⟩
abbrev main_cst_1 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_c_4 : Ref sig .tc := ⟨.hbm, 62, rfl⟩
abbrev main_call2_v14 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_4 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_c_4 : Ref sig .tc := ⟨.hbm, 90, rfl⟩
abbrev main_call3_v14 : Ref sig .tc := ⟨.hbm, 91, rfl⟩
abbrev main_v29 : Ref sig .tc := ⟨.hbm, 92, rfl⟩
abbrev main_v30 : Ref sig .tc := ⟨.hbm, 93, rfl⟩
abbrev main_call4_c : Ref sig .tc := ⟨.hbm, 94, rfl⟩
abbrev main_call4_v0 : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_c_1 : Ref sig .tc := ⟨.hbm, 102, rfl⟩
abbrev main_call4_c_2 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_c_3 : Ref sig .tc := ⟨.hbm, 110, rfl⟩
abbrev main_call4_v12 : Ref sig .tc := ⟨.hbm, 111, rfl⟩
abbrev main_call4_v13 : Ref sig .tc := ⟨.hbm, 112, rfl⟩
abbrev main_call4_v14 : Ref sig .tc := ⟨.hbm, 113, rfl⟩
abbrev main_call4_cst : Ref sig .tc := ⟨.hbm, 114, rfl⟩
abbrev main_call4_v15 : Ref sig .tc := ⟨.hbm, 115, rfl⟩
abbrev main_v31 : Ref sig .tc := ⟨.hbm, 116, rfl⟩
abbrev main_v32 : Ref sig .tc := ⟨.hbm, 117, rfl⟩
abbrev main_call5_v0 : Ref sig .tc := ⟨.hbm, 118, rfl⟩
abbrev main_call5_cst : Ref sig .tc := ⟨.hbm, 119, rfl⟩
abbrev main_call5_v1 : Ref sig .tc := ⟨.hbm, 120, rfl⟩
abbrev main_call5_v2 : Ref sig .tc := ⟨.hbm, 121, rfl⟩
abbrev main_v33 : Ref sig .tc := ⟨.hbm, 122, rfl⟩
abbrev main_cst_5 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_call6_c : Ref sig .tc := ⟨.hbm, 129, rfl⟩
abbrev main_call6_v0 : Ref sig .tc := ⟨.hbm, 130, rfl⟩
abbrev main_call6_v1 : Ref sig .tc := ⟨.hbm, 131, rfl⟩
abbrev main_call6_c_0 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_v5 : Ref sig .tc := ⟨.hbm, 136, rfl⟩
abbrev main_call6_c_1 : Ref sig .tc := ⟨.hbm, 137, rfl⟩
abbrev main_call6_c_2 : Ref sig .tc := ⟨.hbm, 138, rfl⟩
abbrev main_call6_v6 : Ref sig .tc := ⟨.hbm, 139, rfl⟩
abbrev main_call6_v7 : Ref sig .tc := ⟨.hbm, 140, rfl⟩
abbrev main_call6_v8 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_c_3 : Ref sig .tc := ⟨.hbm, 145, rfl⟩
abbrev main_call6_v12 : Ref sig .tc := ⟨.hbm, 146, rfl⟩
abbrev main_call6_v13 : Ref sig .tc := ⟨.hbm, 147, rfl⟩
abbrev main_call6_v14 : Ref sig .tc := ⟨.hbm, 148, rfl⟩
abbrev main_call6_cst : Ref sig .tc := ⟨.hbm, 149, rfl⟩
abbrev main_call6_v15 : Ref sig .tc := ⟨.hbm, 150, rfl⟩
abbrev main_v39 : Ref sig .tc := ⟨.hbm, 151, rfl⟩
abbrev main_call7_v0 : Ref sig .tc := ⟨.hbm, 152, rfl⟩
abbrev main_v40 : Ref sig .tc := ⟨.hbm, 153, rfl⟩
abbrev main_c : Ref sig .tc := ⟨.hbm, 154, rfl⟩
abbrev main_v41 : Ref sig .tc := ⟨.hbm, 155, rfl⟩
abbrev main_v42 : Ref sig .tc := ⟨.hbm, 156, rfl⟩
abbrev main_c_6 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩
abbrev main_v47 : Ref sig .tc := ⟨.hbm, 162, rfl⟩
abbrev main_c_7 : Ref sig .tc := ⟨.hbm, 163, rfl⟩
abbrev main_v48 : Ref sig .tc := ⟨.hbm, 164, rfl⟩
abbrev main_v49 : Ref sig .tc := ⟨.hbm, 165, rfl⟩
abbrev main_call8_c : Ref sig .tc := ⟨.hbm, 166, rfl⟩
abbrev main_call8_v0 : Ref sig .tc := ⟨.hbm, 167, rfl⟩
abbrev main_call8_v1 : Ref sig .tc := ⟨.hbm, 168, rfl⟩
abbrev main_call8_c_0 : Ref sig .tc := ⟨.hbm, 169, rfl⟩
abbrev main_call8_v2 : Ref sig .tc := ⟨.hbm, 170, rfl⟩
abbrev main_call8_v3 : Ref sig .tc := ⟨.hbm, 171, rfl⟩
abbrev main_call8_v4 : Ref sig .tc := ⟨.hbm, 172, rfl⟩
abbrev main_call8_v5 : Ref sig .tc := ⟨.hbm, 173, rfl⟩
abbrev main_call8_c_1 : Ref sig .tc := ⟨.hbm, 174, rfl⟩
abbrev main_call8_c_2 : Ref sig .tc := ⟨.hbm, 175, rfl⟩
abbrev main_call8_v6 : Ref sig .tc := ⟨.hbm, 176, rfl⟩
abbrev main_call8_v7 : Ref sig .tc := ⟨.hbm, 177, rfl⟩
abbrev main_call8_v8 : Ref sig .tc := ⟨.hbm, 178, rfl⟩
abbrev main_call8_v9 : Ref sig .tc := ⟨.hbm, 179, rfl⟩
abbrev main_call8_v10 : Ref sig .tc := ⟨.hbm, 180, rfl⟩
abbrev main_call8_v11 : Ref sig .tc := ⟨.hbm, 181, rfl⟩
abbrev main_call8_c_3 : Ref sig .tc := ⟨.hbm, 182, rfl⟩
abbrev main_call8_v12 : Ref sig .tc := ⟨.hbm, 183, rfl⟩
abbrev main_call8_v13 : Ref sig .tc := ⟨.hbm, 184, rfl⟩
abbrev main_call8_c_4 : Ref sig .tc := ⟨.hbm, 185, rfl⟩
abbrev main_call8_v14 : Ref sig .tc := ⟨.hbm, 186, rfl⟩
abbrev main_v50 : Ref sig .tc := ⟨.hbm, 187, rfl⟩
abbrev main_c_8 : Ref sig .tc := ⟨.hbm, 188, rfl⟩
abbrev main_call9_v0 : Ref sig .tc := ⟨.hbm, 189, rfl⟩
abbrev main_call9_v1 : Ref sig .tc := ⟨.hbm, 190, rfl⟩
abbrev main_v51 : Ref sig .tc := ⟨.hbm, 191, rfl⟩
abbrev main_c_9 : Ref sig .tc := ⟨.hbm, 192, rfl⟩
abbrev main_v52 : Ref sig .tc := ⟨.hbm, 193, rfl⟩
abbrev main_v53 : Ref sig .tc := ⟨.hbm, 194, rfl⟩
abbrev main_c_10 : Ref sig .tc := ⟨.hbm, 195, rfl⟩
abbrev main_v54 : Ref sig .tc := ⟨.hbm, 196, rfl⟩
abbrev main_v55 : Ref sig .tc := ⟨.hbm, 197, rfl⟩
abbrev main_v56 : Ref sig .tc := ⟨.hbm, 198, rfl⟩
abbrev main_v57 : Ref sig .tc := ⟨.hbm, 199, rfl⟩
abbrev main_v58 : Ref sig .tc := ⟨.hbm, 200, rfl⟩
abbrev main_v59 : Ref sig .tc := ⟨.hbm, 201, rfl⟩
abbrev main_values_11 : Ref sig .tc := ⟨.hbm, 202, rfl⟩
abbrev main_indices_12 : Ref sig .tc := ⟨.hbm, 203, rfl⟩
abbrev main_v60 : Ref sig .tc := ⟨.hbm, 204, rfl⟩
abbrev main_call10_c : Ref sig .tc := ⟨.hbm, 205, rfl⟩
abbrev main_call10_v0 : Ref sig .tc := ⟨.hbm, 206, rfl⟩
abbrev main_call10_v1 : Ref sig .tc := ⟨.hbm, 207, rfl⟩
abbrev main_call10_c_0 : Ref sig .tc := ⟨.hbm, 208, rfl⟩
abbrev main_call10_v2 : Ref sig .tc := ⟨.hbm, 209, rfl⟩
abbrev main_call10_v3 : Ref sig .tc := ⟨.hbm, 210, rfl⟩
abbrev main_call10_v4 : Ref sig .tc := ⟨.hbm, 211, rfl⟩
abbrev main_call10_v5 : Ref sig .tc := ⟨.hbm, 212, rfl⟩
abbrev main_call10_c_1 : Ref sig .tc := ⟨.hbm, 213, rfl⟩
abbrev main_call10_c_2 : Ref sig .tc := ⟨.hbm, 214, rfl⟩
abbrev main_call10_v6 : Ref sig .tc := ⟨.hbm, 215, rfl⟩
abbrev main_call10_v7 : Ref sig .tc := ⟨.hbm, 216, rfl⟩
abbrev main_call10_v8 : Ref sig .tc := ⟨.hbm, 217, rfl⟩
abbrev main_call10_v9 : Ref sig .tc := ⟨.hbm, 218, rfl⟩
abbrev main_call10_v10 : Ref sig .tc := ⟨.hbm, 219, rfl⟩
abbrev main_call10_v11 : Ref sig .tc := ⟨.hbm, 220, rfl⟩
abbrev main_call10_c_3 : Ref sig .tc := ⟨.hbm, 221, rfl⟩
abbrev main_call10_v12 : Ref sig .tc := ⟨.hbm, 222, rfl⟩
abbrev main_call10_v13 : Ref sig .tc := ⟨.hbm, 223, rfl⟩
abbrev main_call10_v14 : Ref sig .tc := ⟨.hbm, 224, rfl⟩
abbrev main_call10_cst : Ref sig .tc := ⟨.hbm, 225, rfl⟩
abbrev main_call10_v15 : Ref sig .tc := ⟨.hbm, 226, rfl⟩
abbrev main_v61 : Ref sig .tc := ⟨.hbm, 227, rfl⟩
abbrev main_call11_v0 : Ref sig .tc := ⟨.hbm, 228, rfl⟩
abbrev main_v62 : Ref sig .tc := ⟨.hbm, 229, rfl⟩
abbrev main_c_13 : Ref sig .tc := ⟨.hbm, 230, rfl⟩
abbrev main_v63 : Ref sig .tc := ⟨.hbm, 231, rfl⟩
abbrev main_v64 : Ref sig .tc := ⟨.hbm, 232, rfl⟩
abbrev main_c_14 : Ref sig .tc := ⟨.hbm, 233, rfl⟩
abbrev main_v65 : Ref sig .tc := ⟨.hbm, 234, rfl⟩
abbrev main_v66 : Ref sig .tc := ⟨.hbm, 235, rfl⟩
abbrev main_v67 : Ref sig .tc := ⟨.hbm, 236, rfl⟩
abbrev main_v68 : Ref sig .tc := ⟨.hbm, 237, rfl⟩
abbrev main_v69 : Ref sig .tc := ⟨.hbm, 238, rfl⟩
abbrev main_call12_c : Ref sig .tc := ⟨.hbm, 239, rfl⟩
abbrev main_call12_v0 : Ref sig .tc := ⟨.hbm, 240, rfl⟩
abbrev main_call12_v1 : Ref sig .tc := ⟨.hbm, 241, rfl⟩
abbrev main_call12_c_0 : Ref sig .tc := ⟨.hbm, 242, rfl⟩
abbrev main_call12_v2 : Ref sig .tc := ⟨.hbm, 243, rfl⟩
abbrev main_call12_v3 : Ref sig .tc := ⟨.hbm, 244, rfl⟩
abbrev main_call12_v4 : Ref sig .tc := ⟨.hbm, 245, rfl⟩
abbrev main_call12_v5 : Ref sig .tc := ⟨.hbm, 246, rfl⟩
abbrev main_call12_c_1 : Ref sig .tc := ⟨.hbm, 247, rfl⟩
abbrev main_call12_c_2 : Ref sig .tc := ⟨.hbm, 248, rfl⟩
abbrev main_call12_v6 : Ref sig .tc := ⟨.hbm, 249, rfl⟩
abbrev main_call12_v7 : Ref sig .tc := ⟨.hbm, 250, rfl⟩
abbrev main_call12_v8 : Ref sig .tc := ⟨.hbm, 251, rfl⟩
abbrev main_call12_v9 : Ref sig .tc := ⟨.hbm, 252, rfl⟩
abbrev main_call12_v10 : Ref sig .tc := ⟨.hbm, 253, rfl⟩
abbrev main_call12_v11 : Ref sig .tc := ⟨.hbm, 254, rfl⟩
abbrev main_call12_c_3 : Ref sig .tc := ⟨.hbm, 255, rfl⟩
abbrev main_call12_v12 : Ref sig .tc := ⟨.hbm, 256, rfl⟩
abbrev main_call12_v13 : Ref sig .tc := ⟨.hbm, 257, rfl⟩
abbrev main_call12_c_4 : Ref sig .tc := ⟨.hbm, 258, rfl⟩
abbrev main_call12_v14 : Ref sig .tc := ⟨.hbm, 259, rfl⟩
abbrev main_v70 : Ref sig .tc := ⟨.hbm, 260, rfl⟩
abbrev main_v71 : Ref sig .tc := ⟨.hbm, 261, rfl⟩
abbrev main_c_15 : Ref sig .tc := ⟨.hbm, 262, rfl⟩
abbrev main_v72 : Ref sig .tc := ⟨.hbm, 263, rfl⟩
abbrev main_v73 : Ref sig .tc := ⟨.hbm, 264, rfl⟩
abbrev main_c_16 : Ref sig .tc := ⟨.hbm, 265, rfl⟩
abbrev main_v74 : Ref sig .tc := ⟨.hbm, 266, rfl⟩
abbrev main_v75 : Ref sig .tc := ⟨.hbm, 267, rfl⟩
abbrev main_v76 : Ref sig .tc := ⟨.hbm, 268, rfl⟩
abbrev main_v77 : Ref sig .tc := ⟨.hbm, 269, rfl⟩
abbrev main_v78 : Ref sig .tc := ⟨.hbm, 270, rfl⟩
abbrev main_call14_c : Ref sig .tc := ⟨.hbm, 271, rfl⟩
abbrev main_call14_v0 : Ref sig .tc := ⟨.hbm, 272, rfl⟩
abbrev main_call14_v1 : Ref sig .tc := ⟨.hbm, 273, rfl⟩
abbrev main_call14_c_0 : Ref sig .tc := ⟨.hbm, 274, rfl⟩
abbrev main_call14_v2 : Ref sig .tc := ⟨.hbm, 275, rfl⟩
abbrev main_call14_v3 : Ref sig .tc := ⟨.hbm, 276, rfl⟩
abbrev main_call14_v4 : Ref sig .tc := ⟨.hbm, 277, rfl⟩
abbrev main_call14_v5 : Ref sig .tc := ⟨.hbm, 278, rfl⟩
abbrev main_call14_c_1 : Ref sig .tc := ⟨.hbm, 279, rfl⟩
abbrev main_call14_c_2 : Ref sig .tc := ⟨.hbm, 280, rfl⟩
abbrev main_call14_v6 : Ref sig .tc := ⟨.hbm, 281, rfl⟩
abbrev main_call14_v7 : Ref sig .tc := ⟨.hbm, 282, rfl⟩
abbrev main_call14_v8 : Ref sig .tc := ⟨.hbm, 283, rfl⟩
abbrev main_call14_v9 : Ref sig .tc := ⟨.hbm, 284, rfl⟩
abbrev main_call14_v10 : Ref sig .tc := ⟨.hbm, 285, rfl⟩
abbrev main_call14_v11 : Ref sig .tc := ⟨.hbm, 286, rfl⟩
abbrev main_call14_c_3 : Ref sig .tc := ⟨.hbm, 287, rfl⟩
abbrev main_call14_v12 : Ref sig .tc := ⟨.hbm, 288, rfl⟩
abbrev main_call14_v13 : Ref sig .tc := ⟨.hbm, 289, rfl⟩
abbrev main_call14_c_4 : Ref sig .tc := ⟨.hbm, 290, rfl⟩
abbrev main_call14_v14 : Ref sig .tc := ⟨.hbm, 291, rfl⟩
abbrev main_v79 : Ref sig .tc := ⟨.hbm, 292, rfl⟩
abbrev main_c_17 : Ref sig .tc := ⟨.hbm, 293, rfl⟩
abbrev main_call15_v0 : Ref sig .tc := ⟨.hbm, 294, rfl⟩
abbrev main_call15_v1 : Ref sig .tc := ⟨.hbm, 295, rfl⟩
abbrev main_v80 : Ref sig .tc := ⟨.hbm, 296, rfl⟩
abbrev main_c_18 : Ref sig .tc := ⟨.hbm, 297, rfl⟩
abbrev main_v81 : Ref sig .tc := ⟨.hbm, 298, rfl⟩
abbrev main_v82 : Ref sig .tc := ⟨.hbm, 299, rfl⟩
abbrev main_c_19 : Ref sig .tc := ⟨.hbm, 300, rfl⟩
abbrev main_v83 : Ref sig .tc := ⟨.hbm, 301, rfl⟩
abbrev main_v84 : Ref sig .tc := ⟨.hbm, 302, rfl⟩
abbrev main_v85 : Ref sig .tc := ⟨.hbm, 303, rfl⟩
abbrev main_v86 : Ref sig .tc := ⟨.hbm, 304, rfl⟩
abbrev main_v87 : Ref sig .tc := ⟨.hbm, 305, rfl⟩

abbrev nD : Nat := 1
abbrev τ : Topo := Topo.v7x

variable {F : FTy → Type} [FloatOps F]
-- ==== Proof.Order.lean ====
/-
  The stable descending sort of a finite family of extended reals: the permutation `order x` lists the positions from
  the greatest entry to the least, and its first position is the least position of a greatest entry.
-/
module

public import Idealize.ShloMosaic.Lib.SortFacts
public import Idealize.ShloMosaic.PureOps.Ideal
public import Mathlib.Tactic.Linarith
public import Mathlib.Tactic.Ring
public import Mathlib.Tactic.NormNum
public import Mathlib.Tactic.Positivity

@[expose] public section

namespace Cert.Hand

open Idealize.ShloMosaic

/-- Sorting strictly before: the greater entry. -/
noncomputable def above {n : Nat} (x : Fin n → EReal) (k k' : Fin n) : Bool := decide (x k' < x k)

/-- The positions from the greatest entry to the least, equal entries in the order of their positions. -/
noncomputable def order {n : Nat} (x : Fin n → EReal) : Fin n → Fin n := sortedFrom (above x)

theorem order_injective {n : Nat} (x : Fin n → EReal) : Function.Injective (order x) := sortedFrom_injective _

theorem order_surjective {n : Nat} (x : Fin n → EReal) : Function.Surjective (order x) := sortedFrom_surjective _

/-- A later position's entry is at most an earlier one's. -/
theorem order_antitone {n : Nat} (x : Fin n → EReal) {i j : Fin n} (h : i ≤ j) : x (order x j) ≤ x (order x i) := by
  rcases h.eq_or_lt with rfl | hlt
  · exact le_rfl
  · have := sortedFrom_noInversion (above x) (above x)
      (fun a b hab => by simp only [above, decide_eq_true_eq, decide_eq_false_iff_not, not_lt] at hab ⊢; exact hab.le)
      (fun a b hab => hab)
      (fun a b c hab hbc => by
        simp only [above, decide_eq_false_iff_not, not_lt] at hab hbc ⊢; exact hab.trans hbc) i j hlt
    unfold order
    unfold above at this
    exact not_lt.mp (of_decide_eq_false this)

/-- The head of the sorted list of increasing positions: no entry exceeds its entry, and an earlier position's entry is
    strictly less. -/
theorem head_stableSort {n : Nat} (x : Fin n → EReal) (l : List (Fin n)) (hl : l.Pairwise (· < ·)) :
    ∀ h ∈ (stableSort (above x) l).head?, ∀ b ∈ l, x b ≤ x h ∧ (b < h → x b < x h) := by
  induction l with
  | nil => intro h hh b hb; simp at hb
  | cons a l ih =>
    rw [List.pairwise_cons] at hl
    intro h hh b hb
    have ih' := ih hl.2
    have hperm : ∀ c, c ∈ stableSort (above x) l → c ∈ l := fun c hc => (perm_stableSort (above x) l).mem_iff.mp hc
    unfold stableSort at hh
    rcases hs : stableSort (above x) l with _ | ⟨h', t⟩
    · rw [hs] at hh
      have hlnil : l = [] := by
        have := length_stableSort (above x) l
        rw [hs] at this
        exact List.length_eq_zero_iff.mp this.symm
      subst hlnil
      simp only [insertBefore, List.head?_cons, Option.mem_def, Option.some.injEq] at hh
      subst hh
      simp only [List.mem_singleton] at hb
      subst hb
      exact ⟨le_rfl, fun h => absurd h (lt_irrefl _)⟩
    · rw [hs] at hh ih' hperm
      have hh' := ih' h' (by simp)
      have hmem : h' ∈ l := hperm h' (by simp)
      unfold insertBefore at hh
      split at hh
      · rename_i hab
        simp only [above, decide_eq_true_eq] at hab
        simp only [List.head?_cons, Option.mem_def, Option.some.injEq] at hh
        subst hh
        rcases List.mem_cons.mp hb with rfl | hb
        · exact ⟨hab.le, fun _ => hab⟩
        · exact hh' b hb
      · rename_i hab
        simp only [above, decide_eq_true_eq, not_lt] at hab
        simp only [List.head?_cons, Option.mem_def, Option.some.injEq] at hh
        subst hh
        rcases List.mem_cons.mp hb with rfl | hb
        · exact ⟨le_rfl, fun h => absurd h (lt_irrefl _)⟩
        · exact ⟨(hh' b hb).1.trans hab, fun hlt => absurd (hl.1 b hb) (not_lt.mpr hlt.le)⟩

/-- The first position: its entry is greatest, and every earlier position's entry is strictly less. -/
theorem order_first {n : Nat} (x : Fin n → EReal) (z : Fin n) (hz : z.val = 0) (b : Fin n) :
    x b ≤ x (order x z) ∧ (b < order x z → x b < x (order x z)) := by
  refine head_stableSort x (List.finRange n) (List.pairwise_lt_finRange n) (order x z) ?_ b (List.mem_finRange b)
  unfold order sortedFrom sortPositions
  rw [List.head?_eq_getElem?, Option.mem_def, List.getElem?_eq_some_iff]
  exact ⟨by rw [length_stableSort, List.length_finRange]; exact lt_of_le_of_lt (Nat.zero_le _) z.isLt,
    by simp only [List.get_eq_getElem, Fin.val_cast]; congr 1; exact hz.symm⟩

/-- The entries at least a threshold that lies above the entry of rank `c` and at most the entry of rank `c - 1` are
    those of the first `c` positions. -/
theorem above_threshold {n : Nat} (x : Fin n → EReal) (c : Nat) (t : EReal)
    (hi : ∀ j : Fin n, j.val < c → t ≤ x (order x j)) (lo : ∀ j : Fin n, c ≤ j.val → x (order x j) < t) (j : Fin n) :
    t ≤ x (order x j) ↔ j.val < c :=
  ⟨fun h => by by_contra hc; exact absurd h (not_le.mpr (lo j (not_lt.mp hc))), hi j⟩

/-- At least `c` entries reach `t` exactly when the entry of rank `c - 1` does. -/
theorem count_ge {n : Nat} (x : Fin n → EReal) (c : Nat) (t : EReal) (l : Fin n) (hl : l.val + 1 = c) :
    c ≤ (Finset.univ.filter fun k => t ≤ x k).card ↔ t ≤ x (order x l) := by
  have hcard : (Finset.univ.filter fun k => t ≤ x k).card = (Finset.univ.filter fun j => t ≤ x (order x j)).card := by
    rw [← Finset.card_map (s := Finset.univ.filter fun j => t ≤ x (order x j)) ⟨order x, order_injective x⟩]
    congr 1
    ext k
    simp only [Finset.mem_filter, Finset.mem_univ, true_and, Finset.mem_map, Function.Embedding.coeFn_mk]
    constructor
    · intro hk
      obtain ⟨j, rfl⟩ := order_surjective x k
      exact ⟨j, hk, rfl⟩
    · rintro ⟨j, hj, rfl⟩
      exact hj
  rw [hcard]
  constructor
  · intro h
    by_contra hlt
    rw [not_le] at hlt
    have hsub : (Finset.univ.filter fun j => t ≤ x (order x j)) ⊆ Finset.Iio l := by
      intro j hj
      simp only [Finset.mem_filter, Finset.mem_univ, true_and] at hj
      rw [Finset.mem_Iio]
      by_contra hjl
      exact absurd (hj.trans (order_antitone x (not_lt.mp hjl))) (not_le.mpr hlt)
    have := Finset.card_le_card hsub
    rw [Fin.card_Iio] at this
    omega
  · intro h
    have hsub : Finset.Iic l ⊆ (Finset.univ.filter fun j => t ≤ x (order x j)) := by
      intro j hj
      simp only [Finset.mem_filter, Finset.mem_univ, true_and]
      exact h.trans (order_antitone x (Finset.mem_Iic.mp hj))
    have := Finset.card_le_card hsub
    rw [Fin.card_Iic] at this
    omega

end Cert.Hand
-- ==== Proof.TopK.lean ====
/-
  The first columns of every row sorted in descending order, read at an index: the value is the row's entry at the
  position `order` gives, the index that position.
-/
module

public import proofs.«01_k».proof.Proof.Order
public import Idealize.ShloMosaic.Lib.Pointwise

@[expose] public section

noncomputable section

namespace Cert.Hand

open Idealize.ShloMosaic

/-- Comparing by greater is sorting by `above`. -/
theorem gt_eq_above {n : Nat} (x : Fin n → EReal) :
    (fun k k' : Fin n => FloatOps.cmpfTotal (F := Ideal) (φ := .f32) .gt (x k) (x k') == 1#1) = above x := by
  funext k k'
  show (BitVec.ofBool (decide (x k' < x k)) == 1#1) = decide (x k' < x k)
  cases decide (x k' < x k) <;> rfl

variable {a b c : Nat} (x : FVec Ideal ⟨2, ![a, b]⟩ .f32)
  (h : (⟨2, ![a, b]⟩ : Shape).Slices (fun _ => 0) ⟨2, ![a, c]⟩) (hc : c ≤ b) (r : Fin a) (j : Fin c)

/-- Row `r` of a matrix. -/
abbrev row (x : FVec Ideal ⟨2, ![a, b]⟩ .f32) (r : Fin a) : Fin b → EReal := fun k => x (ix2 r k)

/-- Replacing the column of an index. -/
theorem along_one (k : Fin b) (j : Fin b) :
    Shape.Idx.along (s := ⟨2, ![a, b]⟩) (ix2 r j) (1 : Fin 2) k = ix2 r k := by
  funext d
  match d with
  | ⟨0, _⟩ => rfl
  | ⟨1, _⟩ => rfl

/-- A slice that starts at the origin, read at an index. -/
theorem slice_origin {α : Type} (y : (⟨2, ![a, b]⟩ : Shape).Idx → α) :
    extractStridedSlice ⟨2, ![a, c]⟩ (fun _ => 0) y h (ix2 r j) = y (ix2 r (j.castLE hc)) := by
  unfold extractStridedSlice
  congr 1
  funext d
  apply Fin.ext
  match d with
  | ⟨0, _⟩ => show 0 + r.val = r.val; omega
  | ⟨1, _⟩ => show 0 + j.val = j.val; omega

/-- The sorting permutation of a row. -/
theorem sorted_row (j : Fin b) : sortedFrom (fun k k' : Fin b => FloatOps.cmpfTotal (F := Ideal) (φ := .f32) .gt
      (x (Shape.Idx.along (s := ⟨2, ![a, b]⟩) (ix2 r j) (1 : Fin 2) k))
      (x (Shape.Idx.along (s := ⟨2, ![a, b]⟩) (ix2 r j) (1 : Fin 2) k')) == 1#1) j = order (row x r) j := by
  simp only [along_one]
  unfold order
  rw [← gt_eq_above]

include hc in
/-- The values. -/
theorem topK_val : (Host.topK ⟨2, ![a, c]⟩ 1 (FloatOps.cmpfTotal (F := Ideal) (φ := .f32) .gt) x h).1 (ix2 r j)
    = row x r (order (row x r) (j.castLE hc)) := by
  unfold Host.topK; dsimp only
  refine (slice_origin h hc r j _).trans ?_
  unfold Host.sort2
  rw [dif_pos (by show 1 < 2; omega)]
  dsimp only
  refine (congrArg x (along_one (b := b) r _ (j.castLE hc))).trans ?_
  exact congrArg (fun k => x (ix2 r k)) (sorted_row x r (j.castLE hc))

include hc in
/-- The indices. -/
theorem topK_ix : (Host.topK ⟨2, ![a, c]⟩ 1 (FloatOps.cmpfTotal (F := Ideal) (φ := .f32) .gt) x h).2 (ix2 r j)
    = BitVec.ofNat 32 (order (row x r) (j.castLE hc)).val := by
  unfold Host.topK; dsimp only
  refine (slice_origin h hc r j _).trans ?_
  unfold Host.sort2
  rw [dif_pos (by show 1 < 2; omega)]
  dsimp only
  refine (congrArg (fun i : (⟨2, ![a, b]⟩ : Shape).Idx => BitVec.ofNat 32 (i (1 : Fin 2)).val)
    (along_one (b := b) r _ (j.castLE hc))).trans ?_
  exact congrArg (fun k : Fin b => BitVec.ofNat 32 k.val) (sorted_row x r (j.castLE hc))

end Cert.Hand

end
-- ==== Proof.Floats.lean ====
/-
  The 32-bit float patterns as a staircase of reals: the value of a pattern without its sign, the height of each step,
  and the bounds that the search over patterns needs.
-/
module

public import Idealize.ShloMosaic.PureOps.Ideal
public import Mathlib.Tactic.Linarith
public import Mathlib.Tactic.Ring
public import Mathlib.Tactic.NormNum
public import Mathlib.Tactic.Positivity

@[expose] public section

noncomputable section

namespace Cert.Hand

open Idealize.ShloMosaic

/-- The value of the float pattern `m` whose sign bit is clear. -/
def mag (m : Nat) : ℝ :=
  if m / 2 ^ 23 = 0 then (m : ℝ) * 2 ^ (-149 : Int)
  else ((2 ^ 23 + m % 2 ^ 23 : Nat) : ℝ) * 2 ^ ((m / 2 ^ 23 : Nat) - 150 : Int)

/-- One step up the staircase. -/
theorem mag_succ (m : Nat) : mag (m + 1) = mag m + 2 ^ ((max (m / 2 ^ 23) 1 : Nat) - 150 : Int) := by
  have hdm := Nat.div_add_mod m (2 ^ 23)
  have hmod : m % 2 ^ 23 < 2 ^ 23 := Nat.mod_lt _ (by norm_num)
  rcases (show m % 2 ^ 23 + 1 ≤ 2 ^ 23 from hmod).lt_or_eq with hlt | heq
  · have hd : (m + 1) / 2 ^ 23 = m / 2 ^ 23 := by omega
    have hm : (m + 1) % 2 ^ 23 = m % 2 ^ 23 + 1 := by omega
    unfold mag
    rw [hd, hm]
    by_cases h0 : m / 2 ^ 23 = 0
    · rw [if_pos h0, if_pos h0, h0]
      push_cast
      norm_num
      ring
    · rw [if_neg h0, if_neg h0, max_eq_left (by omega)]
      push_cast
      ring
  · have hd : (m + 1) / 2 ^ 23 = m / 2 ^ 23 + 1 := by omega
    have hm : (m + 1) % 2 ^ 23 = 0 := by omega
    have hm' : m % 2 ^ 23 = 2 ^ 23 - 1 := by omega
    unfold mag
    rw [hd, hm, if_neg (by omega), hm']
    by_cases h0 : m / 2 ^ 23 = 0
    · rw [if_pos h0, h0]
      have : m = 2 ^ 23 - 1 := by omega
      rw [this]
      norm_num
    · rw [if_neg h0, max_eq_left (by omega)]
      have h2 : ((2 : ℝ) ^ (((m / 2 ^ 23 + 1 : Nat) : Int) - 150)) = 2 * 2 ^ (((m / 2 ^ 23 : Nat) : Int) - 150) := by
        rw [show (((m / 2 ^ 23 + 1 : Nat) : Int) - 150) = 1 + (((m / 2 ^ 23 : Nat) : Int) - 150) by push_cast; ring,
          zpow_add₀ (by norm_num), zpow_one]
      rw [h2]
      push_cast
      norm_num
      ring

theorem mag_mono : Monotone mag := monotone_nat_of_le_succ fun m => by
  rw [mag_succ]; exact le_add_of_nonneg_right (by positivity)

theorem mag_zero : mag 0 = 0 := by simp [mag]

theorem mag_nonneg (m : Nat) : 0 ≤ mag m := mag_zero ▸ mag_mono (Nat.zero_le m)

/-- The pattern of one, and that of two. -/
theorem mag_one : mag 0x3F800000 = 1 := by norm_num [mag]

theorem mag_two : mag 0x40000000 = 2 := by norm_num [mag]

/-- Below one a step is at most `2⁻²⁴`. -/
theorem mag_step (m : Nat) (h : m < 0x3F800000) : mag (m + 1) ≤ mag m + 2 ^ (-24 : Int) := by
  rw [mag_succ]
  have : max (m / 2 ^ 23) 1 ≤ 126 := by omega
  have h2 : (2 : ℝ) ^ ((max (m / 2 ^ 23) 1 : Nat) - 150 : Int) ≤ 2 ^ (-24 : Int) :=
    zpow_le_zpow_right₀ (by norm_num) (by omega)
  linarith

/-- The value of the float whose order-preserving key is `k`. -/
def keyVal (k : Int) : ℝ := if 0 ≤ k then mag k.toNat else - mag (-1 - k).toNat

/-- Between two neighbouring keys whose lower value is at least minus one and below one, the values differ by at most
    `2⁻²⁴`. -/
theorem keyVal_step (k : Int) (h0 : -1 ≤ keyVal k) (h1 : keyVal k < 1) :
    keyVal (k + 1) ≤ keyVal k + 2 ^ (-24 : Int) := by
  unfold keyVal at h0 h1 ⊢
  by_cases hk : 0 ≤ k
  · rw [if_pos hk] at h0 h1 ⊢
    rw [if_pos (by omega), show (k + 1).toNat = k.toNat + 1 by omega]
    apply mag_step
    by_contra hc
    have := mag_mono (not_lt.mp hc)
    rw [mag_one] at this
    linarith
  · rw [if_neg hk] at h0 h1 ⊢
    by_cases hk1 : k = -1
    · subst hk1
      norm_num [mag_zero]
    · rw [if_neg (by omega)]
      obtain ⟨n, hn⟩ : ∃ n : Nat, (-1 - k).toNat = n + 1 := ⟨(-1 - k).toNat - 1, by omega⟩
      rw [hn] at h0 ⊢
      rw [show (-1 - (k + 1)).toNat = n by omega]
      have : n < 0x3F800000 := by
        by_contra hc
        have h2 := mag_succ n
        have h3 := mag_mono (not_lt.mp hc)
        rw [mag_one] at h3
        have : (0 : ℝ) < 2 ^ ((max (n / 2 ^ 23) 1 : Nat) - 150 : Int) := by positivity
        linarith
      have := mag_step n this
      linarith

/-- A pattern with a clear sign bit, below the infinities, denotes its `mag`. -/
theorem ofBits_pos (b : BitVec 32) (h : b.toNat < 0x7F800000) : Ideal.ofBits .f32 b = ((mag b.toNat : ℝ) : EReal) := by
  have hs : b.extractLsb' 31 1 = 0#1 := by
    apply BitVec.eq_of_toNat_eq
    simp only [BitVec.extractLsb'_toNat, Nat.shiftRight_eq_div_pow, BitVec.toNat_ofNat]
    omega
  have he : (b.extractLsb' 23 8).toNat = b.toNat / 2 ^ 23 := by
    simp only [BitVec.extractLsb'_toNat, Nat.shiftRight_eq_div_pow]
    omega
  have hf : (b.extractLsb' 0 23).toNat = b.toNat % 2 ^ 23 := by
    simp only [BitVec.extractLsb'_toNat, Nat.shiftRight_eq_div_pow]
    omega
  show Ideal.ieee 8 23 b = _
  unfold Ideal.ieee
  simp only [Nat.reduceAdd, hs, he, hf]
  rw [if_neg (by omega)]
  unfold mag
  by_cases h0 : b.toNat / 2 ^ 23 = 0
  · rw [if_pos h0, if_pos h0]
    have : b.toNat % 2 ^ 23 = b.toNat := by omega
    rw [this]
    norm_num
  · rw [if_neg h0, if_neg h0]
    norm_num
    congr 2
    ring_nf

/-- A pattern with a set sign bit, above minus infinity, denotes the opposite of the value without the sign. -/
theorem ofBits_neg (b : BitVec 32) (h0 : 0x80000000 ≤ b.toNat) (h : b.toNat < 0xFF800000) :
    Ideal.ofBits .f32 b = ((- mag (b.toNat - 0x80000000) : ℝ) : EReal) := by
  have hs : b.extractLsb' 31 1 = 1#1 := by
    apply BitVec.eq_of_toNat_eq
    simp only [BitVec.extractLsb'_toNat, Nat.shiftRight_eq_div_pow, BitVec.toNat_ofNat]
    omega
  have he : (b.extractLsb' 23 8).toNat = (b.toNat - 0x80000000) / 2 ^ 23 := by
    simp only [BitVec.extractLsb'_toNat, Nat.shiftRight_eq_div_pow]
    omega
  have hf : (b.extractLsb' 0 23).toNat = (b.toNat - 0x80000000) % 2 ^ 23 := by
    simp only [BitVec.extractLsb'_toNat, Nat.shiftRight_eq_div_pow]
    omega
  show Ideal.ieee 8 23 b = _
  unfold Ideal.ieee
  simp only [Nat.reduceAdd, hs, he, hf]
  have hm : b.toNat - 0x80000000 < 0x7F800000 := by omega
  generalize b.toNat - 0x80000000 = m at he hf hm ⊢
  rw [if_neg (by omega)]
  unfold mag
  by_cases h0 : m / 2 ^ 23 = 0
  · rw [if_pos h0, if_pos h0]
    have : m % 2 ^ 23 = m := by omega
    rw [this]
    norm_num
  · rw [if_neg h0, if_neg h0]
    refine congrArg (fun r : ℝ => (r : EReal)) ?_
    rw [show ((m / 2 ^ 23 : Nat) : Int) - (2 ^ (8 - 1) - 1) - (23 : Nat) = ((m / 2 ^ 23 : Nat) : Int) - 150 by
      norm_num; ring_nf]
    simp only [if_true, beq_self_eq_true]
    ring_nf

end Cert.Hand

end
-- ==== Proof.Steps.lean ====
/-
  The bit-by-bit search of the kernel's second region, as one step repeated: `stepV` offers one bit to every row's key,
  and `runV` offers a number of bits from the highest down.
-/
module

public import proofs.«01_k».proof.Proof.Gen.KernelIdeal.Frame

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F]

/-- The float whose order-preserving key is given, row by row. -/
def valueV (k : IVec S32x1 32) : FVec F S32x1 .f32 :=
  bitcastToFloat .f32 (xori k (select (cmpi .slt k (broadcast S32x1 0#32)) (broadcast S32x1 2147483647#32)
    (broadcast S32x1 0#32)))

/-- Which similarities reach the key's value, as words. -/
def reachV (sim : FVec F S32x65536 .f32) (k : IVec S32x1 32) : IVec S32x65536 32 :=
  extui 32 (cmpf .oge sim (broadcastTo S32x65536 (valueV k) broadcasts_S32x1_S32x65536)) natLt_1_32

/-- One step: the key with the offered bit added, kept in the rows where at least 256 similarities reach its value. -/
def stepV (sim : FVec F S32x65536 .f32) (p : IVec S32x1 32) (s : BitVec 32) : IVec S32x1 32 :=
  select (cmpi .sge (shapeCast S32x1
      (multiReductionI .add [1] S32 (reachV sim (addi p (broadcast S32x1 s))) 0#32 reduces_S32x65536_S32 rfl)
      shapeCasts_S32_S32x1) (broadcast S32x1 256#32))
    (addi p (broadcast S32x1 s)) p

/-- The thirty-two bits, from the highest down. -/
def bits : List (BitVec 32) :=
  [2147483648#32, 1073741824#32, 536870912#32, 268435456#32, 134217728#32, 67108864#32, 33554432#32, 16777216#32,
    8388608#32, 4194304#32, 2097152#32, 1048576#32, 524288#32, 262144#32, 131072#32, 65536#32, 32768#32, 16384#32,
    8192#32, 4096#32, 2048#32, 1024#32, 512#32, 256#32, 128#32, 64#32, 32#32, 16#32, 8#32, 4#32, 2#32, 1#32]

/-- The whole search from a starting key: every bit offered in turn. -/
def runV (sim : FVec F S32x65536 .f32) (p : IVec S32x1 32) : IVec S32x1 32 := bits.foldl (stepV sim) p

variable (x0 : Vec F S32x65536 .f32) (x1 : Vec F S1x65536 .f32)

/-- The key's starting value in every row. -/
def startV : IVec S32x1 32 := broadcast S32x1 2147483648#32

abbrev simV := k1_pay43 x0 x1

/-! The generated values between the steps, each from the key before it. -/

theorem pay44 : k1_pay44 x0 x1 = stepV (simV x0 x1) (stepV (simV x0 x1) startV 2147483648#32) 1073741824#32 := rfl

theorem pay47 : k1_pay47 x0 x1 = stepV (simV x0 x1) (stepV (simV x0 x1) (k1_pay44 x0 x1) 536870912#32) 268435456#32 := rfl

theorem pay51 : k1_pay51 x0 x1 = stepV (simV x0 x1) (stepV (simV x0 x1) (stepV (simV x0 x1) (k1_pay47 x0 x1)
    134217728#32) 67108864#32) 33554432#32 := rfl

theorem pay54 : k1_pay54 x0 x1 = stepV (simV x0 x1) (stepV (simV x0 x1) (stepV (simV x0 x1) (k1_pay51 x0 x1)
    16777216#32) 8388608#32) 4194304#32 := rfl

theorem pay56 : k1_pay56 x0 x1 = stepV (simV x0 x1) (stepV (simV x0 x1) (k1_pay54 x0 x1) 2097152#32) 1048576#32 := rfl

theorem pay59 : k1_pay59 x0 x1 = stepV (simV x0 x1) (stepV (simV x0 x1) (stepV (simV x0 x1) (k1_pay56 x0 x1)
    524288#32) 262144#32) 131072#32 := rfl

theorem pay62 : k1_pay62 x0 x1 = stepV (simV x0 x1) (stepV (simV x0 x1) (k1_pay59 x0 x1) 65536#32) 32768#32 := rfl

theorem pay65 : k1_pay65 x0 x1 = stepV (simV x0 x1) (stepV (simV x0 x1) (stepV (simV x0 x1) (k1_pay62 x0 x1)
    16384#32) 8192#32) 4096#32 := rfl

theorem pay68 : k1_pay68 x0 x1 = stepV (simV x0 x1) (stepV (simV x0 x1) (stepV (simV x0 x1) (k1_pay65 x0 x1)
    2048#32) 1024#32) 512#32 := rfl

theorem pay70 : k1_pay70 x0 x1 = stepV (simV x0 x1) (stepV (simV x0 x1) (k1_pay68 x0 x1) 256#32) 128#32 := rfl

theorem pay73 : k1_pay73 x0 x1 = stepV (simV x0 x1) (stepV (simV x0 x1) (stepV (simV x0 x1) (stepV (simV x0 x1)
    (stepV (simV x0 x1) (stepV (simV x0 x1) (k1_pay70 x0 x1)
    64#32) 32#32) 16#32) 8#32) 4#32) 2#32 := rfl

/-- The whole search: the thirty-two bits offered from the highest down. -/
theorem pay73_run : stepV (simV x0 x1) (k1_pay73 x0 x1) 1#32 = runV (simV x0 x1) startV := by
  rw [pay73, pay70, pay68, pay65, pay62, pay59, pay56, pay54, pay51, pay47, pay44]
  simp only [runV, bits, List.foldl_cons, List.foldl_nil]

/-- The exponentials of the similarities less the row's greatest, outside the threshold zero. -/
def weightV (sim : FVec F S32x65536 .f32) (k : IVec S32x1 32) : FVec F S32x65536 .f32 :=
  mulf (exp (subf sim (broadcastTo S32x65536 (k1_pay38 sim) broadcasts_S32x1_S32x65536))) (sitofp .f32 (reachV sim k))

theorem pay40 : k1_pay40 (simV x0 x1) (k1_pay73 x0 x1) = weightV (simV x0 x1) (runV (simV x0 x1) startV) := by
  rw [← pay73_run]
  rfl

end Cert.KernelIdeal.Hand

end
-- ==== Proof.Search.lean ====
/-
  The search for a row's threshold: thirty-two bits are offered from the highest down to a key that starts at the
  least word, a bit kept where at least 256 entries reach the value of the key with it. For entries between minus one
  and one the key found is the last whose value at least 256 entries reach (`search_spec`), and where the entries of rank
  255 and 256 are `2⁻²⁴` apart, its value separates the first 256 ranks from the rest (`search_separates`).
-/
module

public import proofs.«01_k».proof.Proof.Order
public import proofs.«01_k».proof.Proof.Floats
public import proofs.«01_k».proof.Proof.Steps

@[expose] public section

noncomputable section

namespace Cert.Hand

open Idealize.ShloMosaic

/-- The float whose order-preserving key is the word `k`. -/
def wordVal (k : BitVec 32) : EReal := Ideal.ofBits .f32 (k ^^^ (if k.slt 0#32 then 2147483647#32 else 0#32))

/-- Flipping the low bits of a word whose high bit is set. -/
theorem flip_low (k : BitVec 32) (h : 2 ^ 31 ≤ k.toNat) :
    (k ^^^ 2147483647#32).toNat = 2 ^ 31 + (2 ^ 32 - 1 - k.toNat) := by
  have hlt := k.isLt
  rw [BitVec.toNat_xor, show (2147483647#32).toNat = 2 ^ 31 - 1 by decide]
  obtain ⟨z, hz⟩ : ∃ z, k.toNat = 2 ^ 31 + z := ⟨k.toNat - 2 ^ 31, by omega⟩
  have hz' : z < 2 ^ 31 := by omega
  rw [hz, show 2 ^ 32 - 1 - (2 ^ 31 + z) = 2 ^ 31 - (z + 1) by omega]
  apply Nat.eq_of_testBit_eq
  intro i
  rw [Nat.testBit_xor, Nat.testBit_two_pow_sub_one]
  rcases lt_trichotomy i 31 with hi | rfl | hi
  · rw [Nat.testBit_two_pow_add_gt hi, Nat.testBit_two_pow_add_gt hi, Nat.testBit_two_pow_sub_succ hz']
    simp [hi]
  · rw [Nat.testBit_two_pow_add_eq, Nat.testBit_two_pow_add_eq, Nat.testBit_two_pow_sub_succ hz',
      Nat.testBit_lt_two_pow hz']
    simp
  · have hp : 2 ^ 32 ≤ 2 ^ i := Nat.pow_le_pow_right (by norm_num) hi
    rw [Nat.testBit_lt_two_pow (show 2 ^ 31 + z < 2 ^ i by omega),
      Nat.testBit_lt_two_pow (show 2 ^ 31 + (2 ^ 31 - (z + 1)) < 2 ^ i by omega)]
    simp; omega

/-- The value of a word key, for keys between `-2³⁰` and `2³⁰`. -/
theorem wordVal_eq (k : BitVec 32) (h0 : -2 ^ 30 ≤ k.toInt) (h1 : k.toInt ≤ 2 ^ 30) :
    wordVal k = ((keyVal k.toInt : ℝ) : EReal) := by
  unfold wordVal keyVal
  rw [BitVec.toInt_eq_toNat_cond] at h0 h1 ⊢
  have hlt := k.isLt
  by_cases hk : 2 * k.toNat < 2 ^ 32
  · rw [if_pos hk] at h0 h1 ⊢
    have hs : k.slt 0#32 = false := by
      simp only [BitVec.slt, BitVec.toInt_eq_toNat_cond, if_pos hk, BitVec.toNat_ofNat]
      simp
    rw [hs, if_neg (by simp), BitVec.xor_zero, if_pos (by omega), Int.toNat_natCast]
    exact ofBits_pos k (by omega)
  · rw [if_neg hk] at h0 h1 ⊢
    have hs : k.slt 0#32 = true := by
      simp only [BitVec.slt, BitVec.toInt_eq_toNat_cond, if_neg hk, BitVec.toNat_ofNat]
      simp
      omega
    have hf := flip_low k (by omega)
    rw [hs, if_pos rfl, if_neg (by push_cast at h1 ⊢; omega), ofBits_neg _ (by omega) (by push_cast at h0; omega), hf]
    exact congrArg (fun m : Nat => ((-mag m : ℝ) : EReal)) (by push_cast at h0 ⊢; omega)

/-- A key whose value is less than minus one is followed by one whose value is at most minus one. -/
theorem keyVal_below (k : Int) (h : keyVal k < -1) : keyVal (k + 1) ≤ -1 := by
  unfold keyVal at h ⊢
  by_cases hk : 0 ≤ k
  · rw [if_pos hk] at h
    linarith [mag_nonneg k.toNat]
  · rw [if_neg hk] at h
    have hbig : 0x3F800000 < (-1 - k).toNat := by
      by_contra hc
      have := mag_mono (not_lt.mp hc)
      rw [mag_one] at this
      linarith
    rw [if_neg (by omega)]
    have := mag_mono (show 0x3F800000 ≤ (-1 - (k + 1)).toNat by omega)
    rw [mag_one] at this
    linarith

variable {n : Nat} (x : Fin n → EReal)

/-- How many entries reach `t`. -/
def reach (t : EReal) : Nat := (Finset.univ.filter fun k => t ≤ x k).card

/-- One step of the search. -/
def step (p s : BitVec 32) : BitVec 32 := if 256 ≤ reach x (wordVal (p + s)) then p + s else p

/-- The key found. -/
def search : BitVec 32 := Cert.KernelIdeal.Hand.bits.foldl (step x) 2147483648#32

/-- What the search keeps before the bit of weight `w`: the key's value is reached, and that of the key `2w` further is
    not. -/
structure Inv (w : Int) (p : BitVec 32) : Prop where
  lo : -2 ^ 30 ≤ p.toInt
  hi : p.toInt + w ≤ 2 ^ 30
  reached : 256 ≤ reach x ((keyVal p.toInt : ℝ) : EReal)
  beyond : ¬ 256 ≤ reach x ((keyVal (p.toInt + w) : ℝ) : EReal)

theorem inv_step (w : Nat) (h0 : 0 < w) (h1 : w ≤ 2 ^ 29) (p : BitVec 32) (h : Inv x (2 * w : Int) p) :
    Inv x (w : Int) (step x p (BitVec.ofNat 32 w)) := by
  obtain ⟨lo, hi, reached, beyond⟩ := h
  have hw : (BitVec.ofNat 32 w).toInt = w := by
    rw [BitVec.toInt_ofNat']
    simp only [Int.bmod]
    push_cast
    omega
  have hadd : (p + BitVec.ofNat 32 w).toInt = p.toInt + w := by
    rw [BitVec.toInt_add, hw]
    simp only [Int.bmod]
    push_cast
    omega
  have hv : wordVal (p + BitVec.ofNat 32 w) = ((keyVal (p.toInt + w) : ℝ) : EReal) := by
    rw [wordVal_eq _ (by omega) (by omega), hadd]
  unfold step
  rw [hv]
  by_cases hc : 256 ≤ reach x ((keyVal (p.toInt + w) : ℝ) : EReal)
  · rw [if_pos hc]
    refine ⟨by omega, by omega, by rw [hadd]; exact hc, ?_⟩
    rw [hadd, add_assoc, show (w : Int) + w = 2 * w by ring]
    exact beyond
  · rw [if_neg hc]
    exact ⟨lo, by omega, reached, hc⟩

/-- The key found, for entries between minus one and one of which there are at least 256: its value is reached by at
    least 256 entries, and the next key's is not. -/
theorem search_spec (hn : 256 ≤ n) (hx0 : ∀ k, ((-1 : ℝ) : EReal) ≤ x k) (hx1 : ∀ k, x k ≤ ((1 : ℝ) : EReal)) :
    Inv x 1 (search x) := by
  have hall : ∀ t : EReal, t ≤ ((-1 : ℝ) : EReal) → 256 ≤ reach x t := by
    intro t ht
    unfold reach
    rw [Finset.filter_true_of_mem (fun k _ => ht.trans (hx0 k)), Finset.card_univ, Fintype.card_fin]
    exact hn
  have hnone : ∀ t : EReal, ((1 : ℝ) : EReal) < t → ¬ 256 ≤ reach x t := by
    intro t ht
    unfold reach
    rw [Finset.filter_false_of_mem (fun k _ => not_le.mpr ((hx1 k).trans_lt ht))]
    simp
  have hbig : ¬ 256 ≤ reach x ((keyVal (2 ^ 30) : ℝ) : EReal) := by
    apply hnone
    rw [EReal.coe_lt_coe_iff]
    unfold keyVal
    rw [if_pos (by norm_num), show ((2 ^ 30 : Int)).toNat = 0x40000000 by decide, mag_two]
    norm_num
  have hlow : 256 ≤ reach x ((keyVal (-2 ^ 30) : ℝ) : EReal) := by
    apply hall
    rw [EReal.coe_le_coe_iff]
    unfold keyVal
    rw [if_neg (by norm_num), show (-1 - (-2 ^ 30) : Int).toNat = 0x3FFFFFFF by decide]
    have := mag_mono (show 0x3F800000 ≤ 0x3FFFFFFF by norm_num)
    rw [mag_one] at this
    linarith
  -- the two highest bits
  have htop : Inv x (2 ^ 30) (step x (step x 2147483648#32 2147483648#32) 1073741824#32) := by
    have e0 : (2147483648#32 + 2147483648#32 : BitVec 32) = 0#32 := by decide
    have e1 : (0#32 + 1073741824#32 : BitVec 32) = 1073741824#32 := by decide
    have e2 : (2147483648#32 + 1073741824#32 : BitVec 32) = 3221225472#32 := by decide
    have t0 : (0#32).toInt = 0 := by decide
    have t1 : (1073741824#32).toInt = 2 ^ 30 := by decide
    have t2 : (3221225472#32).toInt = -2 ^ 30 := by decide
    have v0 : wordVal 0#32 = ((keyVal 0 : ℝ) : EReal) := by
      rw [wordVal_eq _ (by rw [t0]; norm_num) (by rw [t0]; norm_num), t0]
    have v1 : wordVal 1073741824#32 = ((keyVal (2 ^ 30) : ℝ) : EReal) := by
      rw [wordVal_eq _ (by rw [t1]; norm_num) (by rw [t1]), t1]
    have v2 : wordVal 3221225472#32 = ((keyVal (-2 ^ 30) : ℝ) : EReal) := by
      rw [wordVal_eq _ (by rw [t2]) (by rw [t2]; norm_num), t2]
    by_cases hc : 256 ≤ reach x ((keyVal 0 : ℝ) : EReal)
    · have s1 : step x 2147483648#32 2147483648#32 = 0#32 := by
        unfold step; rw [e0, v0, if_pos hc]
      have s2 : step x 0#32 1073741824#32 = 0#32 := by
        unfold step; rw [e1, v1, if_neg hbig]
      rw [s1, s2]
      exact ⟨by rw [t0]; norm_num, by rw [t0]; norm_num, by rw [t0]; exact hc, by rw [t0, zero_add]; exact hbig⟩
    · have s1 : step x 2147483648#32 2147483648#32 = 2147483648#32 := by
        unfold step; rw [e0, v0, if_neg hc]
      have s2 : step x 2147483648#32 1073741824#32 = 3221225472#32 := by
        unfold step; rw [e2, v2, if_pos hlow]
      rw [s1, s2]
      exact ⟨by rw [t2], by rw [t2]; norm_num, by rw [t2]; exact hlow, by
        rw [t2, show (-2 ^ 30 + 2 ^ 30 : Int) = 0 by norm_num]; exact hc⟩
  -- the remaining thirty
  have hfold : ∀ (m : Nat) (l : List (BitVec 32)) (p : BitVec 32), m ≤ 30 →
      l = (List.range m).reverse.map (fun b => BitVec.ofNat 32 (2 ^ b)) → Inv x ((2 ^ m : Nat) : Int) p →
      Inv x 1 (l.foldl (step x) p) := by
    intro m
    induction m with
    | zero => intro l p _ hl hp; subst hl; simpa using hp
    | succ m ih =>
      intro l p hm hl hp
      rw [List.range_succ, List.reverse_append, List.reverse_singleton, List.singleton_append, List.map_cons] at hl
      subst hl
      rw [List.foldl_cons]
      refine ih _ _ (by omega) rfl (inv_step x (2 ^ m) (by positivity) (Nat.pow_le_pow_right (by norm_num) (by omega)) p ?_)
      rw [show (2 * (2 ^ m : Nat) : Int) = ((2 ^ (m + 1) : Nat) : Int) by push_cast; ring]
      exact hp
  have hbits : Cert.KernelIdeal.Hand.bits = 2147483648#32 :: 1073741824#32 ::
      (List.range 30).reverse.map (fun b => BitVec.ofNat 32 (2 ^ b)) := by decide
  unfold search
  rw [hbits, List.foldl_cons, List.foldl_cons]
  exact hfold 30 _ _ le_rfl rfl (by push_cast; exact htop)

/-- Where the entries of rank 255 and 256 are at least `2⁻²⁴` apart, the entries that reach the value of the key found
    are those of the first 256 ranks. -/
theorem search_separates (hn : 256 < n) (hx0 : ∀ k, ((-1 : ℝ) : EReal) ≤ x k) (hx1 : ∀ k, x k ≤ ((1 : ℝ) : EReal))
    (hgap : ((2 ^ (-24 : Int) : ℝ) : EReal) ≤ x (order x ⟨255, by omega⟩) - x (order x ⟨256, hn⟩)) (j : Fin n) :
    wordVal (search x) ≤ x (order x j) ↔ j.val < 256 := by
  obtain ⟨lo, hi, reached, beyond⟩ := search_spec x hn.le hx0 hx1
  rw [wordVal_eq _ lo (by omega)]
  unfold reach at reached beyond
  rw [count_ge x 256 _ ⟨255, by omega⟩ rfl] at reached beyond
  have hb0 := hx0 (order x ⟨256, hn⟩)
  have ha1 := hx1 (order x ⟨255, by omega⟩)
  have ha0 := hx0 (order x ⟨255, by omega⟩)
  have hb1 := hx1 (order x ⟨256, hn⟩)
  have hanti : ∀ j : Fin n, 256 ≤ j.val → x (order x j) ≤ x (order x ⟨256, hn⟩) := fun j hj => order_antitone x hj
  have hanti' : ∀ j : Fin n, j.val < 256 → x (order x ⟨255, by omega⟩) ≤ x (order x j) :=
    fun j hj => order_antitone x (Nat.le_of_lt_succ hj)
  generalize x (order x ⟨255, by omega⟩) = a at *
  generalize x (order x ⟨256, hn⟩) = b at *
  lift a to ℝ using ⟨ne_top_of_le_ne_top (EReal.coe_ne_top _) ha1, ne_bot_of_le_ne_bot (EReal.coe_ne_bot _) ha0⟩
  lift b to ℝ using ⟨ne_top_of_le_ne_top (EReal.coe_ne_top _) hb1, ne_bot_of_le_ne_bot (EReal.coe_ne_bot _) hb0⟩
  rw [← EReal.coe_sub, EReal.coe_le_coe_iff] at hgap
  rw [not_le] at beyond
  rw [EReal.coe_le_coe_iff] at reached ha1 hb0
  rw [EReal.coe_lt_coe_iff] at beyond
  have hpos : (0 : ℝ) < 2 ^ (-24 : Int) := by positivity
  have hlt : b < keyVal (search x).toInt := by
    by_cases h1 : keyVal (search x).toInt < 1
    · by_cases h0 : -1 ≤ keyVal (search x).toInt
      · have := keyVal_step _ h0 h1
        linarith
      · have := keyVal_below _ (not_le.mp h0)
        linarith
    · linarith
  refine above_threshold x 256 _ (fun j hj => ?_) (fun j hj => ?_) j
  · exact (EReal.coe_le_coe_iff.mpr reached).trans (hanti' j hj)
  · exact (hanti j hj).trans_lt (EReal.coe_lt_coe_iff.mpr hlt)

end Cert.Hand

end
-- ==== Proof.RowRead.lean ====
/-
  The kernel's second region row by row: the vector program of one block of 32 rows, read at a row, is the row's own
  computation — the search for its threshold, the weights of its entries, the weighted mean and the nearest column.
-/
module

public import proofs.«01_k».proof.Proof.Search
public import Idealize.ShloMosaic.Lib.Pointwise

@[expose] public section

set_option maxRecDepth 16384

noncomputable section

namespace Cert.Hand

open Idealize.ShloMosaic

/-- The words of a predicate's truth values add up to the number of indices where it holds. -/
theorem fold_addi_count {ι : Type} (p : ι → Prop) [DecidablePred p] (s : Finset ι) :
    Finset.fold IntOp.addi 0#32 (fun k => BitVec.setWidth 32 (BitVec.ofBool (decide (p k)))) s
      = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (fun h' => ha (Finset.mem_filter.mp h').1), decide_eq_true h]
      show BitVec.setWidth 32 (BitVec.ofBool true) + _ = _
      rw [Nat.add_comm, BitVec.ofNat_add]
      rfl
    · rw [if_neg h, decide_eq_false h]
      show BitVec.setWidth 32 (BitVec.ofBool false) + _ = _
      simp

/-- A small number is at least 256 as a signed word where it is at least 256. -/
theorem sge_256 (m : Nat) (hm : m < 2 ^ 31) : IntOp.cmpi .sge (BitVec.ofNat 32 m) 256#32 = BitVec.ofBool (decide (256 ≤ m)) := by
  have ht : (BitVec.ofNat 32 m).toInt = (m : Int) := by
    have hn : (BitVec.ofNat 32 m).toNat = m := by rw [BitVec.toNat_ofNat]; exact Nat.mod_eq_of_lt (by omega)
    rw [BitVec.toInt_eq_toNat_of_lt (by rw [hn]; omega), hn]
  have : BitVec.sle 256#32 (BitVec.ofNat 32 m) = decide (256 ≤ m) := by
    rw [BitVec.sle_eq_decide, ht, show (256#32 : BitVec 32).toInt = (256 : Int) from rfl]
    congr 1
    apply propext
    omega
  show BitVec.ofBool (BitVec.sle 256#32 (BitVec.ofNat 32 m)) = _
  rw [this]

/-- A selection by a truth value. -/
theorem select_ofBool {α : Type} (b : Bool) (x y : α) : Scalar.select (BitVec.ofBool b) x y = if b = true then x else y := by
  cases b <;> rfl

/-- A word's sign, tested. -/
theorem slt_zero (k : BitVec 32) : Scalar.select (IntOp.cmpi .slt k 0#32) 2147483647#32 0#32
    = if k.slt 0#32 then 2147483647#32 else 0#32 := by
  show Scalar.select (BitVec.ofBool (BitVec.slt k 0#32)) _ _ = _
  rw [select_ofBool]

variable {n : Nat} (x v : Fin n → EReal)

/-- A row's greatest entry, as the maximum over the columns from minus infinity. -/
def rowMax : EReal := Finset.fold max (Ideal.ofBits .f32 4286578688#32) x Finset.univ

/-- An entry's weight: the exponential of its excess over the row's greatest, where it reaches the threshold. -/
def weight (k : Fin n) : EReal :=
  Ideal.exp (x k - rowMax x) * FloatOps.sitofp (F := Ideal) .f32
    (BitVec.setWidth 32 (BitVec.ofBool (decide (wordVal (search x) ≤ x k))))

/-- The weighted mean of the values. -/
def mean : EReal := Ideal.div (∑ k, weight x k * v k) (∑ k, weight x k)

/-- The first column that holds the row's greatest entry. -/
def firstMax : BitVec 32 :=
  Finset.fold IntOp.minsi 2147483647#32 (fun k => if x k = rowMax x then BitVec.ofNat 32 k.val else 65536#32) Finset.univ

end Cert.Hand

namespace Cert.KernelIdeal.Hand

open Idealize.ShloMosaic Cert.Hand
open Cert.KernelIdeal Cert.KernelIdeal.Gen

variable (s : FVec Ideal S32x65536 .f32) (r : Fin 32)

/-- One step of the search, read at a row. -/
theorem stepV_row (p : IVec S32x1 32) (b : BitVec 32) :
    stepV s p b (ix2 r 0) = step (fun k => s (ix2 r k)) (p (ix2 r 0)) b := by
  pointwise [stepV, reachV, valueV]
  refine (congrArg (fun z => Scalar.select (IntOp.cmpi .sge z 256#32) (IntOp.addi (p (ix2 r 0)) b) (p (ix2 r 0)))
    (fold_addi_count (fun k : Fin 65536 => Ideal.ofBits .f32 (IntOp.xori (IntOp.addi (p (ix2 r 0)) b)
      (Scalar.select (IntOp.cmpi .slt (IntOp.addi (p (ix2 r 0)) b) 0#32) 2147483647#32 0#32)) ≤ s (ix2 r k))
      Finset.univ)).trans ?_
  rw [sge_256 _ ((Finset.card_le_univ _).trans_lt (by rw [Fintype.card_fin]; norm_num)), select_ofBool, slt_zero]
  unfold step reach wordVal
  simp only [decide_eq_true_eq]
  rfl

/-- Any number of steps, read at a row. -/
theorem foldV_row (l : List (BitVec 32)) (p : IVec S32x1 32) :
    l.foldl (stepV s) p (ix2 r 0) = l.foldl (step fun k => s (ix2 r k)) (p (ix2 r 0)) := by
  induction l generalizing p with
  | nil => rfl
  | cons b l ih => rw [List.foldl_cons, List.foldl_cons, ih, stepV_row]

/-- The whole search, read at a row. -/
theorem runV_row : runV s startV (ix2 r 0) = search (fun k => s (ix2 r k)) := by
  unfold runV search
  rw [foldV_row]
  rfl

/-- The weights under given keys, read at a row. -/
theorem weightV_at (p : IVec S32x1 32) (k : Fin 65536) : weightV s p (ix2 r k)
    = Ideal.exp (s (ix2 r k) - rowMax fun k => s (ix2 r k)) * FloatOps.sitofp (F := Ideal) .f32
        (BitVec.setWidth 32 (BitVec.ofBool (decide (wordVal (p (ix2 r 0)) ≤ s (ix2 r k))))) := by
  unfold wordVal
  pointwise [weightV, reachV, valueV, k1_pay38]
  rw [slt_zero]
  rfl

/-- The weights under the keys found, read at a row. -/
theorem weightV_row (k : Fin 65536) : weightV s (runV s startV) (ix2 r k) = weight (fun k => s (ix2 r k)) k := by
  rw [weightV_at, runV_row]
  rfl

/-- The nearest column, read at a row. -/
theorem pay39_row : k1_pay39 s (ix2 r 0) = firstMax (fun k => s (ix2 r k)) := by
  pointwise [k1_pay39, k1_pay38]
  rfl

/-- The sum of the weights, read at a row. -/
theorem sum_row (w : FVec Ideal S32x65536 .f32) :
    shapeCast S32x1 (multiReduction (F := Ideal) .add [1] S32 w 0x00000000#32 reduces_S32x65536_S32 (.inl rfl) rfl)
      shapeCasts_S32_S32x1 (ix2 r 0) = ∑ k : Fin 65536, w (ix2 r k) := by
  pointwise []

/-- The weighted mean, read at a row and any of the columns it fills. -/
theorem pay1_row (w : FVec Ideal S32x65536 .f32) (d : FVec Ideal S32x1 .f32) (q : FVec Ideal S1x65536 .f32) (l : Fin 128) :
    k1_pay1 w d q (ix2 r l) = Ideal.div (∑ k : Fin 65536, w (ix2 r k) * q (ix2 0 k)) (d (ix2 r 0)) := by
  pointwise [k1_pay1]

/-- The nearest column, copied over the columns it fills. -/
theorem pay2_row (i : IVec S32x1 32) (l : Fin 128) : k1_pay2 i (ix2 r l) = i (ix2 r 0) := by
  pointwise [k1_pay2]

end Cert.KernelIdeal.Hand

end
-- ==== Proof.Similar.lean ====
/-
  The similarity of two rows: the inner product of the rows, each divided by the greater of its Euclidean norm and a
  small positive constant. Over the extended reals it lies between minus one and one whatever the rows hold.
-/
module

public import Idealize.ShloMosaic.PureOps.Ideal
public import Idealize.ShloMosaic.PureOps.Ideal.Laws
public import Mathlib.Tactic.Linarith
public import Mathlib.Tactic.Ring
public import Mathlib.Tactic.NormNum
public import Mathlib.Tactic.Positivity
public import proofs.«01_k».proof.Proof.Floats

@[expose] public section

noncomputable section

namespace Cert.Hand

open Idealize.ShloMosaic

variable {n : Nat}

/-- A row divided by the greater of its norm and the small constant. -/
def unitRow (u : Fin n → EReal) (d : Fin n) : EReal :=
  Ideal.div (u d) (max (Ideal.sqrt (∑ x, u x * u x)) (Ideal.ofBits .f32 730643660#32))

/-- The similarity of two rows. -/
def cosine (u v : Fin n → EReal) : EReal := ∑ d, unitRow u d * unitRow v d

/-- The small constant is a positive real. -/
theorem eps_pos : ∃ e : ℝ, 0 < e ∧ Ideal.ofBits .f32 730643660#32 = ((e : ℝ) : EReal) := by
  refine ⟨mag 730643660, ?_, ofBits_pos _ (by decide)⟩
  have h := mag_mono (show 1 ≤ 730643660 by norm_num)
  have h1 := mag_succ 0
  rw [mag_zero, zero_add] at h1
  have : (0 : ℝ) < 2 ^ ((max (0 / 2 ^ 23) 1 : Nat) - 150 : Int) := by positivity
  rw [zero_add] at h1
  linarith

theorem sum_coe {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square of an extended real is nonnegative. -/
theorem mul_self_nonneg' (x : EReal) : 0 ≤ x * x := by
  induction x with
  | bot => simp
  | top => simp
  | coe r => rw [← EReal.coe_mul]; exact_mod_cast mul_self_nonneg r

/-- A normalized row is a real row whose squares sum to at most one. -/
theorem unitRow_real (u : Fin n → EReal) : ∃ w : Fin n → ℝ, (∀ d, unitRow u d = ((w d : ℝ) : EReal)) ∧ ∑ d, w d * w d ≤ 1 := by
  obtain ⟨e, he, hE⟩ := eps_pos
  unfold unitRow
  rw [hE]
  by_cases hfin : ∀ d, u d ≠ ⊤ ∧ u d ≠ ⊥
  · choose w hw using fun d => (⟨(u d).toReal, (EReal.coe_toReal (hfin d).1 (hfin d).2).symm⟩ : ∃ r : ℝ, u d = r)
    have hS : (∑ x, u x * u x) = ((∑ x, w x * w x : ℝ) : EReal) := by
      rw [sum_coe]
      exact Finset.sum_congr rfl fun x _ => by rw [hw x, EReal.coe_mul]
    have hnn : 0 ≤ ∑ x, w x * w x := Finset.sum_nonneg fun x _ => mul_self_nonneg _
    have hN : max (Ideal.sqrt (∑ x, u x * u x)) (e : EReal) = ((max (Real.sqrt (∑ x, w x * w x)) e : ℝ) : EReal) := by
      rw [hS]
      show max (if (∑ x, w x * w x) < 0 then ⊥ else ((Real.sqrt (∑ x, w x * w x) : ℝ) : EReal)) _ = _
      rw [if_neg (not_lt.mpr hnn)]
      exact (EReal.coe_strictMono.monotone.map_max).symm
    rw [hN]
    set N := max (Real.sqrt (∑ x, w x * w x)) e with hNdef
    have hNpos : 0 < N := lt_of_lt_of_le he (le_max_right _ _)
    refine ⟨fun d => w d * N⁻¹, fun d => ?_, ?_⟩
    · unfold Ideal.div
      rw [if_neg (by exact_mod_cast hNpos.ne'), hw d, ← EReal.coe_inv, EReal.coe_mul]
    · have hsq : ∑ x, w x * w x ≤ N * N := by
        have h1 : Real.sqrt (∑ x, w x * w x) ≤ N := le_max_left _ _
        calc ∑ x, w x * w x = Real.sqrt (∑ x, w x * w x) * Real.sqrt (∑ x, w x * w x) := (Real.mul_self_sqrt hnn).symm
          _ ≤ N * N := mul_self_le_mul_self (Real.sqrt_nonneg _) h1
      have : ∑ d, w d * N⁻¹ * (w d * N⁻¹) = (∑ d, w d * w d) * (N * N)⁻¹ := by
        rw [Finset.sum_mul]
        exact Finset.sum_congr rfl fun d _ => by rw [mul_inv]; ring
      rw [this]
      exact mul_inv_le_one_of_le₀ hsq (by positivity)
  · have hS : (∑ x, u x * u x) = ⊤ := by
      push Not at hfin
      obtain ⟨d, hd⟩ := hfin
      have hdd : u d * u d = ⊤ := by
        by_cases ht : u d = ⊤
        · rw [ht]; rfl
        · rw [hd ht]; rfl
      have hle : u d * u d ≤ ∑ x, u x * u x :=
        Finset.single_le_sum (f := fun x => u x * u x) (fun x _ => mul_self_nonneg' (u x)) (Finset.mem_univ d)
      rw [hdd] at hle
      exact top_le_iff.mp hle
    rw [hS]
    refine ⟨fun _ => 0, fun d => ?_, by simp⟩
    show Ideal.div (u d) (max ⊤ _) = _
    rw [max_eq_left le_top]
    unfold Ideal.div
    rw [if_neg (by simp), EReal.inv_top, mul_zero]
    rfl

/-- A similarity is a real between minus one and one. -/
theorem cosine_bounds (u v : Fin n → EReal) :
    ((-1 : ℝ) : EReal) ≤ cosine u v ∧ cosine u v ≤ ((1 : ℝ) : EReal) := by
  obtain ⟨w, hw, hw1⟩ := unitRow_real u
  obtain ⟨z, hz, hz1⟩ := unitRow_real v
  have h : cosine u v = ((∑ d, w d * z d : ℝ) : EReal) := by
    unfold cosine
    rw [sum_coe]
    exact Finset.sum_congr rfl fun d _ => by rw [hw, hz, EReal.coe_mul]
  rw [h, EReal.coe_le_coe_iff, EReal.coe_le_coe_iff]
  have hp : ∑ d, (w d + z d) * (w d + z d) = ∑ d, w d * w d + 2 * ∑ d, w d * z d + ∑ d, z d * z d := by
    rw [Finset.mul_sum, ← Finset.sum_add_distrib, ← Finset.sum_add_distrib]
    exact Finset.sum_congr rfl fun d _ => by ring
  have hm : ∑ d, (w d - z d) * (w d - z d) = ∑ d, w d * w d - 2 * ∑ d, w d * z d + ∑ d, z d * z d := by
    rw [Finset.mul_sum, ← Finset.sum_sub_distrib, ← Finset.sum_add_distrib]
    exact Finset.sum_congr rfl fun d _ => by ring
  have hp0 : 0 ≤ ∑ d, (w d + z d) * (w d + z d) := Finset.sum_nonneg fun d _ => mul_self_nonneg _
  have hm0 : 0 ≤ ∑ d, (w d - z d) * (w d - z d) := Finset.sum_nonneg fun d _ => mul_self_nonneg _
  constructor <;> linarith

end Cert.Hand

end
-- ==== Proof.RowMath.lean ====
/-
  A row's mathematics: the greatest entry is that of rank zero, the first column that holds it is the first of the
  order, and where the threshold separates the first 256 ranks the weighted mean over all columns is the mean over those
  ranks under their normalized exponentials.
-/
module

public import proofs.«01_k».proof.Proof.RowRead
public import proofs.«01_k».proof.Proof.Similar

@[expose] public section

noncomputable section

namespace Cert.Hand

open Idealize.ShloMosaic

/-- The pattern of minus infinity. -/
theorem ofBits_bot : Ideal.ofBits .f32 4286578688#32 = ⊥ := by
  simp [Ideal.ofBits, Ideal.ieee]

/-- The maximum of a family from minus infinity is one of its entries that is above all others. -/
theorem fold_max_eq {ι : Type} [Fintype ι] (f : ι → EReal) (i : ι) (h : ∀ j, f j ≤ f i) :
    Finset.fold max (Ideal.ofBits .f32 4286578688#32) f Finset.univ = f i := by
  rw [ofBits_bot]
  exact le_antisymm ((Finset.fold_max_le _).mpr ⟨bot_le, fun j _ => h j⟩)
    ((Finset.le_fold_max _).mpr (Or.inr ⟨i, Finset.mem_univ i, le_rfl⟩))

/-- The signed minimum of two words has the lesser of their values. -/
theorem toInt_minsi (a b : BitVec 32) : (IntOp.minsi a b).toInt = min a.toInt b.toInt := by
  show (if a.slt b then a else b).toInt = _
  rw [BitVec.slt_eq_decide]
  by_cases h : a.toInt < b.toInt
  · rw [decide_eq_true h, if_pos rfl, min_eq_left h.le]
  · rw [decide_eq_false h, if_neg (by simp), min_eq_right (not_lt.mp h)]

/-- The signed minimum of a family of words is one of its entries that is below all others and the starting word. -/
theorem fold_minsi_eq {ι : Type} [Fintype ι] (b : BitVec 32) (f : ι → BitVec 32) (i : ι)
    (h : ∀ j, (f i).toInt ≤ (f j).toInt) (hb : (f i).toInt ≤ b.toInt) :
    Finset.fold IntOp.minsi b f Finset.univ = f i := by
  apply BitVec.eq_of_toInt_eq
  rw [← Finset.fold_hom (op := IntOp.minsi) (op' := min) (m := BitVec.toInt) toInt_minsi]
  exact le_antisymm ((Finset.fold_min_le _).mpr (Or.inr ⟨i, Finset.mem_univ i, le_rfl⟩))
    ((Finset.le_fold_min _).mpr ⟨hb, fun j _ => h j⟩)

/-- A small number's word. -/
theorem toInt_small (k : Nat) (h : k < 2 ^ 31) : (BitVec.ofNat 32 k).toInt = (k : Int) := by
  have hn : (BitVec.ofNat 32 k).toNat = k := by rw [BitVec.toNat_ofNat]; exact Nat.mod_eq_of_lt (by omega)
  rw [BitVec.toInt_eq_toNat_of_lt (by rw [hn]; omega), hn]

variable {n : Nat} (x v : Fin n → EReal)

/-- A row's greatest entry is that of rank zero. -/
theorem rowMax_eq (z : Fin n) (hz : z.val = 0) : rowMax x = x (order x z) :=
  fold_max_eq x _ fun j => (order_first x z hz j).1

/-- The first column that holds the greatest entry is the first of the order. -/
theorem firstMax_eq (z : Fin n) (hz : z.val = 0) (hn : n ≤ 65536) : firstMax x = BitVec.ofNat 32 (order x z).val := by
  have hlt := (order x z).isLt
  unfold firstMax
  rw [rowMax_eq x z hz]
  refine (fold_minsi_eq _ _ (order x z) (fun j => ?_) ?_).trans (if_pos rfl)
  · rw [if_pos rfl, toInt_small _ (by omega)]
    by_cases h : x j = x (order x z)
    · rw [if_pos h, toInt_small _ (by omega)]
      by_contra h'
      have hj : j < order x z := Fin.lt_def.mpr (by omega)
      exact absurd h ((order_first x z hz j).2 hj).ne
    · rw [if_neg h, show (65536#32 : BitVec 32).toInt = (65536 : Int) from rfl]
      omega
  · rw [if_pos rfl, toInt_small _ (by omega), show (2147483647#32 : BitVec 32).toInt = (2147483647 : Int) from rfl]
    omega

/-- The mean of a short row's values under its normalized exponentials. -/
def softMean {k : Nat} (y w : Fin k → EReal) : EReal :=
  ∑ j, Ideal.div (Ideal.exp (y j - max (Ideal.ofBits .f32 4286578688#32)
      (Finset.fold max (Ideal.ofBits .f32 4286578688#32) y Finset.univ)))
    (∑ i, Ideal.exp (y i - max (Ideal.ofBits .f32 4286578688#32)
      (Finset.fold max (Ideal.ofBits .f32 4286578688#32) y Finset.univ))) * w j

/-- A sum over all ranks of terms that vanish from a rank on. -/
theorem sum_first {k : Nat} (hk : k ≤ n) (g : Fin n → EReal) :
    (∑ j : Fin n, if j.val < k then g j else 0) = ∑ j : Fin k, g (j.castLE hk) := by
  rw [← Finset.sum_filter]
  symm
  refine Finset.sum_bij (fun j _ => j.castLE hk) (fun j _ => ?_) (fun a _ b _ h => ?_) (fun j hj => ?_) (fun j _ => rfl)
  · exact Finset.mem_filter.mpr ⟨Finset.mem_univ _, j.isLt⟩
  · have h' : (a.castLE hk).val = (b.castLE hk).val := congrArg Fin.val h
    exact Fin.ext h'
  · exact ⟨⟨j.val, (Finset.mem_filter.mp hj).2⟩, Finset.mem_univ _, rfl⟩

/-- A sum over the columns taken in the order. -/
theorem sum_order (g : Fin n → EReal) : ∑ k, g k = ∑ j, g (order x j) :=
  (Function.Bijective.sum_comp ⟨order_injective x, order_surjective x⟩ g).symm

/-- A truth value's word, as a number. -/
theorem sitofp_ofBool (b : Bool) : FloatOps.sitofp (F := Ideal) .f32 (BitVec.setWidth 32 (BitVec.ofBool b))
    = if b = true then (1 : EReal) else 0 := by
  cases b
  · show (((BitVec.setWidth 32 (BitVec.ofBool false)).toInt : ℝ) : EReal) = _
    rw [show (BitVec.setWidth 32 (BitVec.ofBool false)).toInt = 0 from rfl]; simp
  · show (((BitVec.setWidth 32 (BitVec.ofBool true)).toInt : ℝ) : EReal) = _
    rw [show (BitVec.setWidth 32 (BitVec.ofBool true)).toInt = 1 from rfl]; simp

/-- Where the threshold separates the first 256 ranks, the weighted mean of a row of real values is the mean over those
    ranks under their normalized exponentials. -/
theorem mean_eq (hn : 256 ≤ n) (hx0 : ∀ k, ((-1 : ℝ) : EReal) ≤ x k) (hx1 : ∀ k, x k ≤ ((1 : ℝ) : EReal))
    (hv : ∀ k, ∃ a : ℝ, v k = ((a : ℝ) : EReal))
    (hsep : ∀ j : Fin n, wordVal (search x) ≤ x (order x j) ↔ j.val < 256) :
    mean x v = softMean (fun j : Fin 256 => x (order x (j.castLE hn))) (fun j : Fin 256 => v (order x (j.castLE hn))) := by
  choose w hw using hv
  have hreal : ∀ k, ∃ a : ℝ, x k = ((a : ℝ) : EReal) := fun k => by
    have h0 := hx0 k
    have h1 := hx1 k
    generalize x k = a at *
    lift a to ℝ using ⟨ne_top_of_le_ne_top (EReal.coe_ne_top _) h1, ne_bot_of_le_ne_bot (EReal.coe_ne_bot _) h0⟩
    exact ⟨a, rfl⟩
  choose y hy using hreal
  -- the two maxima
  have hM : rowMax x = x (order x ⟨0, by omega⟩) := rowMax_eq x _ rfl
  have hM' : max (Ideal.ofBits .f32 4286578688#32) (Finset.fold max (Ideal.ofBits .f32 4286578688#32)
      (fun j : Fin 256 => x (order x (j.castLE hn))) Finset.univ) = x (order x ⟨0, by omega⟩) := by
    rw [fold_max_eq (fun j : Fin 256 => x (order x (j.castLE hn))) ⟨0, by norm_num⟩
      (fun j => (order_first x ⟨0, by omega⟩ rfl _).1), ofBits_bot]
    exact max_eq_right bot_le
  -- the weights in the order
  set E : Fin n → ℝ := fun j => Real.exp (y (order x j) - y (order x ⟨0, by omega⟩)) with hE
  have hexp : ∀ j, Ideal.exp (x (order x j) - x (order x ⟨0, by omega⟩)) = ((E j : ℝ) : EReal) := fun j => by
    rw [hy, hy, ← EReal.coe_sub, Ideal.exp_coe]
  have hwt : ∀ j, weight x (order x j) = if j.val < 256 then ((E j : ℝ) : EReal) else 0 := fun j => by
    unfold weight
    rw [sitofp_ofBool, hM, hexp]
    by_cases h : j.val < 256
    · rw [if_pos h, decide_eq_true ((hsep j).mpr h), if_pos rfl, mul_one]
    · rw [if_neg h, decide_eq_false (fun h' => h ((hsep j).mp h')), if_neg (by simp), mul_zero]
  have hnum : ∑ k, weight x k * v k = ((∑ j : Fin 256, E (j.castLE hn) * w (order x (j.castLE hn)) : ℝ) : EReal) := by
    rw [sum_order x, sum_coe, ← sum_first hn fun j => ((E j * w (order x j) : ℝ) : EReal)]
    refine Finset.sum_congr rfl fun j _ => ?_
    rw [hwt, hw]
    by_cases h : j.val < 256
    · rw [if_pos h, if_pos h, EReal.coe_mul]
    · rw [if_neg h, if_neg h, zero_mul]
  have hden : ∑ k, weight x k = ((∑ j : Fin 256, E (j.castLE hn) : ℝ) : EReal) := by
    rw [sum_order x, sum_coe, ← sum_first hn fun j => ((E j : ℝ) : EReal)]
    exact Finset.sum_congr rfl fun j _ => hwt j
  have hpos : (∑ j : Fin 256, E (j.castLE hn)) ≠ 0 :=
    (Finset.sum_pos (fun j _ => Real.exp_pos _) ⟨⟨0, by norm_num⟩, Finset.mem_univ _⟩).ne'
  unfold mean softMean
  rw [hnum, hden, hM', Ideal.div_coe hpos]
  simp only [hexp, hw]
  rw [← sum_coe]
  simp only [Ideal.div_coe hpos, ← EReal.coe_mul]
  rw [← sum_coe, EReal.coe_eq_coe_iff, Finset.sum_mul]
  refine Finset.sum_congr rfl fun j _ => ?_
  ring

end Cert.Hand

end
-- ==== Proof.HostTail.lean ====
/-
  The host operations of the kernel after its two regions, as functions of the arguments: the row reads by an index
  vector (`takeI`, `takeF`), the normalized rows (`unit`), and the three updated memories (`newKey`, `newVal`, `newAge`)
  from the index of the nearest slot. The theorems at the end read the last boundary valuation at the kernel's results.
-/
module

public import proofs.«01_k».proof.Proof.Gen.KernelIdeal.Frame
public import Idealize.ShloMosaic.Lib.StableHlo.Run

@[expose] public section

set_option maxRecDepth 16384

noncomputable section

namespace Cert.KernelIdeal.Hand

open Idealize.ShloMosaic Idealize.ShloMosaic.TcCoe Idealize.ShloMosaic.Tactic Idealize.ShloMosaic.StableHlo
open Cert.KernelIdeal Cert.KernelIdeal.Gen

variable {F : FTy → Type} [FloatOps F]

/-! ## The operations, composed -/

/-- An index vector with a negative index counted from the end of the 65536 slots. -/
def wrapIx (i : IVec S1024 32) : IVec S1024 32 :=
  select (cmpi .slt i (broadcastInDim S1024 ![] bcast_S_S1024 (constantI S_ 32 0#32)))
    (addi i (broadcastInDim S1024 ![] bcast_S_S1024 (constantI S_ 32 65536#32))) i

/-- The index vector as a column of start indices. -/
def ixCol (i : IVec S1024 32) : IVec S1024x1 32 := broadcastInDim S1024x1 ![0] bcast_S1024_S1024x1_0 (wrapIx i)

/-- Which indices lie within the 65536 slots. -/
def inSlots (i : IVec S1024 32) : IVec S1024 1 :=
  Host.reduce IntOp.andi
    (andi (cmpi .sge (ixCol i) (broadcastInDim S1024x1 ![] bcast_S_S1024x1 (constantI S_ 32 0#32)))
      (cmpi .sle (ixCol i) (broadcastInDim S1024x1 ![0, 1] bcast_S1x1_S1024x1_0_1
        (broadcastInDim S1x1 ![1] bcast_S1_S1x1_1 (constantI S1 32 65535#32)))))
    (constantI S_ 1 1#1) reducesTo_S1024x1_S1024_d1 h_S_

/-- Integer slots read at an index vector. -/
def takeI (x : IVec S65536 32) (i : IVec S1024 32) : IVec S1024 32 :=
  select (inSlots i) (Host.gather gather_S65536_S1024x1_S1024_n_0_n_n_0_1_1 x (ixCol i))
    (broadcastInDim S1024 ![] bcast_S_S1024 (constantI S_ 32 2147483648#32))

/-- Rows of the memory keys read at an index vector. -/
def takeF (x : FVec F S65536x256 .f32) (i : IVec S1024 32) : FVec F S1024x256 .f32 :=
  select (broadcastInDim S1024x256 ![0] bcast_S1024_S1024x256_0 (inSlots i))
    (Host.gather gather_S65536x256_S1024x1_S1024x256_1_0_n_n_0_1_1256 x (ixCol i))
    (broadcastInDim S1024x256 ![] bcast_S_S1024x256 (constant S_ .f32 0x7FC00000#32))

/-- Each row divided by the greater of its Euclidean norm and the small constant. -/
def unit (x : FVec F S1024x256 .f32) : FVec F S1024x256 .f32 :=
  Host.divf x (broadcastInDim S1024x256 ![0, 1] bcast_S1024x1_S1024x256_0_1
    (maximumf (Host.sqrt (broadcastInDim S1024x1 ![0] bcast_S1024_S1024x1_0
        (Host.reduceAdd (mulf x x) (constant S_ .f32 0x00000000#32) reducesTo_S1024x256_S1024_d1 h_S_)))
      (broadcastInDim S1024x1 ![] bcast_S_S1024x1 (constant S_ .f32 0x2B8CBCCC#32))))

/-- Which rows' nearest slot holds the row's label. -/
def hit (label : IVec S1024 32) (val : IVec S65536 32) (near : IVec S1024 32) : IVec S1024 1 :=
  cmpi .eq (takeI val near) label

/-- A flag per row, over the row's 256 entries. -/
def rowFlag (b : IVec S1024 1) : IVec S1024x256 1 :=
  broadcastInDim S1024x256 ![0, 1] bcast_S1024x1_S1024x256_0_1 (broadcastInDim S1024x1 ![0] bcast_S1024_S1024x1_0 b)

/-- The memory keys after the nearest slots are averaged with the queries. -/
def key1 (qh : FVec F S1024x256 .f32) (label : IVec S1024 32) (key : FVec F S65536x256 .f32) (val : IVec S65536 32)
    (near : IVec S1024 32) : FVec F S65536x256 .f32 :=
  Host.scatter scatter_S65536x256_S1024x1_S1024x256_1_0_0_1 (fun _ b => b) key (ixCol near)
    (select (rowFlag (hit label val near)) (unit (addf qh (takeF key near))) (takeF key near))

/-- The ages, one older. -/
def aged (age : IVec S65536 32) : IVec S65536 32 :=
  addi age (broadcastInDim S65536 ![] bcast_S_S65536 (constantI S_ 32 1#32))

/-- The zero vector. -/
def zeros : IVec S1024 32 := broadcastInDim S1024 ![] bcast_S_S1024 (id (constantI S_ 32 0#32))

/-- The ages after the nearest slots that hold the label are reset. -/
def age1 (label : IVec S1024 32) (val age : IVec S65536 32) (near : IVec S1024 32) : IVec S65536 32 :=
  Host.scatter scatter_S65536_S1024x1_S1024_n_0_0_1 (fun _ b => b) (aged age) (ixCol near)
    (select (hit label val near) zeros (takeI (aged age) near))

variable (F) in
/-- The 1024 oldest slots. -/
def oldest (age : IVec S65536 32) : IVec S1024 32 :=
  (Host.topK S1024 0 (FloatOps.cmpfTotal (F := F) (φ := .f32) .gt) (sitofp .f32 age) sliceFits_S65536_S1024).2

/-- The updated memory keys. -/
def newKey (qh : FVec F S1024x256 .f32) (label : IVec S1024 32) (key : FVec F S65536x256 .f32) (val age : IVec S65536 32)
    (near : IVec S1024 32) : FVec F S65536x256 .f32 :=
  Host.scatter scatter_S65536x256_S1024x1_S1024x256_1_0_0_1 (fun _ b => b) (key1 qh label key val near)
    (ixCol (oldest F age))
    (select (rowFlag (hit label val near)) (takeF (key1 qh label key val near) (oldest F age)) qh)

variable (F) in
/-- The updated memory values. -/
def newVal (label : IVec S1024 32) (val age : IVec S65536 32) (near : IVec S1024 32) : IVec S65536 32 :=
  Host.scatter scatter_S65536_S1024x1_S1024_n_0_0_1 (fun _ b => b) val (ixCol (oldest F age))
    (select (hit label val near) (takeI val (oldest F age)) label)

variable (F) in
/-- The updated ages. -/
def newAge (label : IVec S1024 32) (val age : IVec S65536 32) (near : IVec S1024 32) : IVec S65536 32 :=
  Host.scatter scatter_S65536_S1024x1_S1024_n_0_0_1 (fun _ b => b) (age1 label val age near) (ixCol (oldest F age))
    (select (hit label val near) (takeI (age1 label val age near) (oldest F age)) zeros)

/-! ## Each stretch of host operations, read at the buffers used later -/

section stretches
variable (V : Valuation τ sig (Elt F))

/-- The buffer's contents under a valuation. -/
abbrev at' (V : Valuation τ sig (Elt F)) (r : Ref sig .tc) := V (Proc.devRef .tc r)

set_option maxHeartbeats 2000000

/-- The first stretch leaves the normalized queries. -/
theorem s0_v7 : after hostOps0 V (Proc.devRef .tc main_v7) = unit (V (Proc.devRef .tc main_arg0)) := by
  after_results_simp <;> rfl

/-- The stretch between the regions leaves the values as a row of floats. -/
theorem s1_v10 : after hostOps1 V (Proc.devRef .tc main_v10)
    = shapeCast S1x65536 (sitofp (F := F) .f32 (V (Proc.devRef .tc main_arg3))) shapeCasts_S65536_S1x65536 := by
  after_results_simp <;> rfl

theorem s2_v13 : after hostOps2 V (Proc.devRef .tc main_v13)
    = shapeCast S1024 (extractStridedSlice S1024x1 ![0, 0] (V (Proc.devRef .tc main_v11_0)) slices_S1024x128_S1024x1_0_0)
        shapeCasts_S1024x1_S1024 := by
  after_results_simp <;> rfl

theorem s2_v15 : after hostOps2 V (Proc.devRef .tc main_v15)
    = shapeCast S1024 (extractStridedSlice S1024x1 ![0, 0] (V (Proc.devRef .tc main_v11_1)) slices_S1024x128_S1024x1_0_0)
        shapeCasts_S1024x1_S1024 := by
  after_results_simp <;> rfl

theorem s2_1 : after hostOps2_1 V (Proc.devRef .tc main_v16)
    = takeI (V (Proc.devRef .tc main_arg3)) (V (Proc.devRef .tc main_v15)) := by
  simp only [hostOps2_1, TRef.binary, TRef.nullary, TRef.ternary, TRef.unary, TRef.toBuf, TRef.ofBuf, cast_eq]
  after_results_simp <;> rfl

theorem s2_2_v17 : after hostOps2_2 V (Proc.devRef .tc main_v17)
    = cmpi .eq (V (Proc.devRef .tc main_v16)) (V (Proc.devRef .tc main_arg1)) := by
  simp only [hostOps2_2, TRef.binary, TRef.nullary, TRef.ternary, TRef.unary, TRef.toBuf, TRef.ofBuf, cast_eq]
  after_results_simp <;> rfl

theorem s2_3_v18 : after hostOps2_3 V (Proc.devRef .tc main_v18)
    = takeF (V (Proc.devRef .tc main_arg2)) (V (Proc.devRef .tc main_v15)) := by
  simp only [hostOps2_3, TRef.binary, TRef.nullary, TRef.ternary, TRef.unary, TRef.toBuf, TRef.ofBuf, cast_eq]
  after_results_simp <;> rfl

theorem s2_4_v27 : after hostOps2_4 V (Proc.devRef .tc main_v27)
    = unit (addf (V (Proc.devRef .tc main_v7)) (V (Proc.devRef .tc main_v18))) := by
  simp only [hostOps2_4, TRef.binary, TRef.nullary, TRef.ternary, TRef.unary, TRef.toBuf, TRef.ofBuf, cast_eq]
  after_results_simp <;> rfl

theorem s2_4_v28 : after hostOps2_4 V (Proc.devRef .tc main_v28)
    = broadcastInDim S1024x1 ![0] bcast_S1024_S1024x1_0 (V (Proc.devRef .tc main_v17)) := by
  simp only [hostOps2_4, TRef.binary, TRef.nullary, TRef.ternary, TRef.unary, TRef.toBuf, TRef.ofBuf, cast_eq]
  after_results_simp <;> rfl

theorem s2_5_v29 : after hostOps2_5 V (Proc.devRef .tc main_v29)
    = takeF (V (Proc.devRef .tc main_arg2)) (V (Proc.devRef .tc main_v15)) := by
  simp only [hostOps2_5, TRef.binary, TRef.nullary, TRef.ternary, TRef.unary, TRef.toBuf, TRef.ofBuf, cast_eq]
  after_results_simp <;> rfl

theorem s2_6_v30 : after hostOps2_6 V (Proc.devRef .tc main_v30)
    = select (broadcastInDim S1024x256 ![0, 1] bcast_S1024x1_S1024x256_0_1 (V (Proc.devRef .tc main_v28))) (V (Proc.devRef .tc main_v27)) (V (Proc.devRef .tc main_v29)) := by
  simp only [hostOps2_6, TRef.binary, TRef.nullary, TRef.ternary, TRef.unary, TRef.toBuf, TRef.ofBuf, cast_eq]
  after_results_simp <;> rfl

theorem s2_7_v37 : after hostOps2_7 V (Proc.devRef .tc main_v37)
    = Host.scatter scatter_S65536x256_S1024x1_S1024x256_1_0_0_1 (fun _ b => b) (V (Proc.devRef .tc main_arg2)) (ixCol (V (Proc.devRef .tc main_v15))) (V (Proc.devRef .tc main_v30)) := by
  simp only [hostOps2_7, TRef.binary, TRef.nullary, TRef.ternary, TRef.unary, TRef.toBuf, TRef.ofBuf, cast_eq]
  after_results_simp <;> rfl

theorem s2_7_v39 : after hostOps2_7 V (Proc.devRef .tc main_v39)
    = aged (V (Proc.devRef .tc main_arg4)) := by
  simp only [hostOps2_7, TRef.binary, TRef.nullary, TRef.ternary, TRef.unary, TRef.toBuf, TRef.ofBuf, cast_eq]
  after_results_simp <;> rfl

theorem s2_8_v40 : after hostOps2_8 V (Proc.devRef .tc main_v40)
    = takeI (V (Proc.devRef .tc main_v39)) (V (Proc.devRef .tc main_v15)) := by
  simp only [hostOps2_8, TRef.binary, TRef.nullary, TRef.ternary, TRef.unary, TRef.toBuf, TRef.ofBuf, cast_eq]
  after_results_simp <;> rfl

theorem s2_9_c_5 : after hostOps2_9 V (Proc.devRef .tc main_c_5)
    = constantI S_ 32 0#32 := by
  simp only [hostOps2_9, TRef.binary, TRef.nullary, TRef.ternary, TRef.unary, TRef.toBuf, TRef.ofBuf, cast_eq]
  after_results_simp <;> rfl

theorem s2_10_v41 : after hostOps2_10 V (Proc.devRef .tc main_v41)
    = select (V (Proc.devRef .tc main_v17)) (broadcastInDim S1024 ![] bcast_S_S1024 (id (V (Proc.devRef .tc main_c_5)))) (V (Proc.devRef .tc main_v40)) := by
  simp only [hostOps2_10, TRef.binary, TRef.nullary, TRef.ternary, TRef.unary, TRef.toBuf, TRef.ofBuf, cast_eq]
  after_results_simp <;> rfl

theorem s2_11_v48 : after hostOps2_11 V (Proc.devRef .tc main_v48)
    = Host.scatter scatter_S65536_S1024x1_S1024_n_0_0_1 (fun _ b => b) (V (Proc.devRef .tc main_v39)) (ixCol (V (Proc.devRef .tc main_v15))) (V (Proc.devRef .tc main_v41)) := by
  simp only [hostOps2_11, TRef.binary, TRef.nullary, TRef.ternary, TRef.unary, TRef.toBuf, TRef.ofBuf, cast_eq]
  after_results_simp <;> rfl

theorem s2_11_indices : after hostOps2_11 V (Proc.devRef .tc main_indices)
    = oldest F (V (Proc.devRef .tc main_arg4)) := by
  simp only [hostOps2_11, TRef.binary, TRef.nullary, TRef.ternary, TRef.unary, TRef.toBuf, TRef.ofBuf, cast_eq]
  after_results_simp <;> rfl

theorem s2_11_v50 : after hostOps2_11 V (Proc.devRef .tc main_v50)
    = broadcastInDim S1024x1 ![0] bcast_S1024_S1024x1_0 (V (Proc.devRef .tc main_v17)) := by
  simp only [hostOps2_11, TRef.binary, TRef.nullary, TRef.ternary, TRef.unary, TRef.toBuf, TRef.ofBuf, cast_eq]
  after_results_simp <;> rfl

theorem s2_12_v51 : after hostOps2_12 V (Proc.devRef .tc main_v51)
    = takeF (V (Proc.devRef .tc main_v37)) (V (Proc.devRef .tc main_indices)) := by
  simp only [hostOps2_12, TRef.binary, TRef.nullary, TRef.ternary, TRef.unary, TRef.toBuf, TRef.ofBuf, cast_eq]
  after_results_simp <;> rfl

theorem s2_13_v52 : after hostOps2_13 V (Proc.devRef .tc main_v52)
    = select (broadcastInDim S1024x256 ![0, 1] bcast_S1024x1_S1024x256_0_1 (V (Proc.devRef .tc main_v50))) (V (Proc.devRef .tc main_v51)) (V (Proc.devRef .tc main_v7)) := by
  simp only [hostOps2_13, TRef.binary, TRef.nullary, TRef.ternary, TRef.unary, TRef.toBuf, TRef.ofBuf, cast_eq]
  after_results_simp <;> rfl

theorem s2_14_v59 : after hostOps2_14 V (Proc.devRef .tc main_v59)
    = Host.scatter scatter_S65536x256_S1024x1_S1024x256_1_0_0_1 (fun _ b => b) (V (Proc.devRef .tc main_v37)) (ixCol (V (Proc.devRef .tc main_indices))) (V (Proc.devRef .tc main_v52)) := by
  simp only [hostOps2_14, TRef.binary, TRef.nullary, TRef.ternary, TRef.unary, TRef.toBuf, TRef.ofBuf, cast_eq]
  after_results_simp <;> rfl

theorem s2_15_v60 : after hostOps2_15 V (Proc.devRef .tc main_v60)
    = takeI (V (Proc.devRef .tc main_arg3)) (V (Proc.devRef .tc main_indices)) := by
  simp only [hostOps2_15, TRef.binary, TRef.nullary, TRef.ternary, TRef.unary, TRef.toBuf, TRef.ofBuf, cast_eq]
  after_results_simp <;> rfl

theorem s2_16_v61 : after hostOps2_16 V (Proc.devRef .tc main_v61)
    = select (V (Proc.devRef .tc main_v17)) (V (Proc.devRef .tc main_v60)) (V (Proc.devRef .tc main_arg1)) := by
  simp only [hostOps2_16, TRef.binary, TRef.nullary, TRef.ternary, TRef.unary, TRef.toBuf, TRef.ofBuf, cast_eq]
  after_results_simp <;> rfl

theorem s2_17_v68 : after hostOps2_17 V (Proc.devRef .tc main_v68)
    = Host.scatter scatter_S65536_S1024x1_S1024_n_0_0_1 (fun _ b => b) (V (Proc.devRef .tc main_arg3)) (ixCol (V (Proc.devRef .tc main_indices))) (V (Proc.devRef .tc main_v61)) := by
  simp only [hostOps2_17, TRef.binary, TRef.nullary, TRef.ternary, TRef.unary, TRef.toBuf, TRef.ofBuf, cast_eq]
  after_results_simp <;> rfl

theorem s2_18_v69 : after hostOps2_18 V (Proc.devRef .tc main_v69)
    = takeI (V (Proc.devRef .tc main_v48)) (V (Proc.devRef .tc main_indices)) := by
  simp only [hostOps2_18, TRef.binary, TRef.nullary, TRef.ternary, TRef.unary, TRef.toBuf, TRef.ofBuf, cast_eq]
  after_results_simp <;> rfl

theorem s2_19_c_12 : after hostOps2_19 V (Proc.devRef .tc main_c_12)
    = constantI S_ 32 0#32 := by
  simp only [hostOps2_19, TRef.binary, TRef.nullary, TRef.ternary, TRef.unary, TRef.toBuf, TRef.ofBuf, cast_eq]
  after_results_simp <;> rfl

theorem s2_20_v70 : after hostOps2_20 V (Proc.devRef .tc main_v70)
    = select (V (Proc.devRef .tc main_v17)) (V (Proc.devRef .tc main_v69)) (broadcastInDim S1024 ![] bcast_S_S1024 (id (V (Proc.devRef .tc main_c_12)))) := by
  simp only [hostOps2_20, TRef.binary, TRef.nullary, TRef.ternary, TRef.unary, TRef.toBuf, TRef.ofBuf, cast_eq]
  after_results_simp <;> rfl

theorem s2_21_v77 : after hostOps2_21 V (Proc.devRef .tc main_v77)
    = Host.scatter scatter_S65536_S1024x1_S1024_n_0_0_1 (fun _ b => b) (V (Proc.devRef .tc main_v48)) (ixCol (V (Proc.devRef .tc main_indices))) (V (Proc.devRef .tc main_v70)) := by
  simp only [hostOps2_21, TRef.binary, TRef.nullary, TRef.ternary, TRef.unary, TRef.toBuf, TRef.ofBuf, cast_eq]
  after_results_simp <;> rfl

end stretches

/-! ## The last boundary at the results -/

section final
variable (m : (ℓ : Loc nD τ sig) → Buf (Elt F) ℓ) (ρ : Dev nD → PrngReg) (c : Dev nD)

/-- The nearest slots, as region 1 leaves them. -/
abbrev nearV : IVec S1024 32 := W5 m ρ c (Proc.devRef .tc main_v15)
/-- The arguments of device `c`. -/
abbrev qA : FVec F S1024x256 .f32 := m ((c : Thread nD τ).loc main_arg0)
abbrev labelA : IVec S1024 32 := m ((c : Thread nD τ).loc main_arg1)
abbrev keyA : FVec F S65536x256 .f32 := m ((c : Thread nD τ).loc main_arg2)
abbrev valA : IVec S65536 32 := m ((c : Thread nD τ).loc main_arg3)
abbrev ageA : IVec S65536 32 := m ((c : Thread nD τ).loc main_arg4)

theorem v7_at : W5 m ρ c (Proc.devRef .tc main_v7) = unit (qA m c) := by
  rw [W5_of m ρ c main_v7 (by decide), W4_of_ne m ρ c main_v7 (by decide), W3_of m ρ c main_v7 (by decide),
    W2_of_ne m ρ c main_v7 (by decide)]
  exact s0_v7 (W0 m ρ c)

theorem e6_v16 : W6 m ρ c (Proc.devRef .tc main_v16) = takeI (valA m c) (nearV m ρ c) := by
  refine (s2_1 (W5 m ρ c)).trans ?_
  rw [W5_args m ρ c main_arg3 (by decide)]

theorem e7_v17 : W7 m ρ c (Proc.devRef .tc main_v17) = hit (labelA m c) (valA m c) (nearV m ρ c) := by
  refine (s2_2_v17 (W6 m ρ c)).trans ?_
  rw [e6_v16, W6_args m ρ c main_arg1 (by decide)]
  rfl

theorem e8_v18 : W8 m ρ c (Proc.devRef .tc main_v18) = takeF (keyA m c) (nearV m ρ c) := by
  refine (s2_3_v18 (W7 m ρ c)).trans ?_
  rw [W7_of m ρ c main_v15 (by decide), W6_of m ρ c main_v15 (by decide), W7_args m ρ c main_arg2 (by decide)]

theorem e9_v27 : W9 m ρ c (Proc.devRef .tc main_v27) = unit (addf (unit (qA m c)) (takeF (keyA m c) (nearV m ρ c))) := by
  refine (s2_4_v27 (W8 m ρ c)).trans ?_
  rw [W8_of m ρ c main_v7 (by decide), W7_of m ρ c main_v7 (by decide), W6_of m ρ c main_v7 (by decide), v7_at, e8_v18]

theorem e9_v28 : W9 m ρ c (Proc.devRef .tc main_v28) = broadcastInDim S1024x1 ![0] bcast_S1024_S1024x1_0 (hit (labelA m c) (valA m c) (nearV m ρ c)) := by
  refine (s2_4_v28 (W8 m ρ c)).trans ?_
  rw [W8_of m ρ c main_v17 (by decide), e7_v17]

theorem e10_v29 : W10 m ρ c (Proc.devRef .tc main_v29) = takeF (keyA m c) (nearV m ρ c) := by
  refine (s2_5_v29 (W9 m ρ c)).trans ?_
  rw [W9_of m ρ c main_v15 (by decide), W8_of m ρ c main_v15 (by decide), W7_of m ρ c main_v15 (by decide), W6_of m ρ c main_v15 (by decide), W9_args m ρ c main_arg2 (by decide)]

theorem e11_v30 : W11 m ρ c (Proc.devRef .tc main_v30) = select (rowFlag (hit (labelA m c) (valA m c) (nearV m ρ c))) (unit (addf (unit (qA m c)) (takeF (keyA m c) (nearV m ρ c)))) (takeF (keyA m c) (nearV m ρ c)) := by
  refine (s2_6_v30 (W10 m ρ c)).trans ?_
  rw [W10_of m ρ c main_v28 (by decide), e9_v28, W10_of m ρ c main_v27 (by decide), e9_v27, e10_v29]
  rfl

theorem e12_v37 : W12 m ρ c (Proc.devRef .tc main_v37) = key1 (unit (qA m c)) (labelA m c) (keyA m c) (valA m c) (nearV m ρ c) := by
  refine (s2_7_v37 (W11 m ρ c)).trans ?_
  rw [W11_of m ρ c main_v15 (by decide), W10_of m ρ c main_v15 (by decide), W9_of m ρ c main_v15 (by decide), W8_of m ρ c main_v15 (by decide), W7_of m ρ c main_v15 (by decide), W6_of m ρ c main_v15 (by decide), W11_args m ρ c main_arg2 (by decide), e11_v30]
  rfl

theorem e12_v39 : W12 m ρ c (Proc.devRef .tc main_v39) = aged (ageA m c) := by
  refine (s2_7_v39 (W11 m ρ c)).trans ?_
  rw [W11_args m ρ c main_arg4 (by decide)]

theorem e13_v40 : W13 m ρ c (Proc.devRef .tc main_v40) = takeI (aged (ageA m c)) (nearV m ρ c) := by
  refine (s2_8_v40 (W12 m ρ c)).trans ?_
  rw [e12_v39, W12_of m ρ c main_v15 (by decide), W11_of m ρ c main_v15 (by decide), W10_of m ρ c main_v15 (by decide), W9_of m ρ c main_v15 (by decide), W8_of m ρ c main_v15 (by decide), W7_of m ρ c main_v15 (by decide), W6_of m ρ c main_v15 (by decide)]

theorem e15_v41 : W15 m ρ c (Proc.devRef .tc main_v41) = select (hit (labelA m c) (valA m c) (nearV m ρ c)) zeros (takeI (aged (ageA m c)) (nearV m ρ c)) := by
  refine (s2_10_v41 (W14 m ρ c)).trans ?_
  rw [show W14 m ρ c (Proc.devRef .tc main_c_5) = _ from s2_9_c_5 (W13 m ρ c), W14_of m ρ c main_v17 (by decide), W13_of m ρ c main_v17 (by decide), W12_of m ρ c main_v17 (by decide), W11_of m ρ c main_v17 (by decide), W10_of m ρ c main_v17 (by decide), W9_of m ρ c main_v17 (by decide), W8_of m ρ c main_v17 (by decide), e7_v17, W14_of m ρ c main_v40 (by decide), e13_v40]
  rfl

theorem e16_v48 : W16 m ρ c (Proc.devRef .tc main_v48) = age1 (labelA m c) (valA m c) (ageA m c) (nearV m ρ c) := by
  refine (s2_11_v48 (W15 m ρ c)).trans ?_
  rw [W15_of m ρ c main_v39 (by decide), W14_of m ρ c main_v39 (by decide), W13_of m ρ c main_v39 (by decide), e12_v39, W15_of m ρ c main_v15 (by decide), W14_of m ρ c main_v15 (by decide), W13_of m ρ c main_v15 (by decide), W12_of m ρ c main_v15 (by decide), W11_of m ρ c main_v15 (by decide), W10_of m ρ c main_v15 (by decide), W9_of m ρ c main_v15 (by decide), W8_of m ρ c main_v15 (by decide), W7_of m ρ c main_v15 (by decide), W6_of m ρ c main_v15 (by decide), e15_v41]
  rfl

theorem e16_indices : W16 m ρ c (Proc.devRef .tc main_indices) = oldest F (ageA m c) := by
  refine (s2_11_indices (W15 m ρ c)).trans ?_
  rw [W15_args m ρ c main_arg4 (by decide)]

theorem e16_v50 : W16 m ρ c (Proc.devRef .tc main_v50) = broadcastInDim S1024x1 ![0] bcast_S1024_S1024x1_0 (hit (labelA m c) (valA m c) (nearV m ρ c)) := by
  refine (s2_11_v50 (W15 m ρ c)).trans ?_
  rw [W15_of m ρ c main_v17 (by decide), W14_of m ρ c main_v17 (by decide), W13_of m ρ c main_v17 (by decide), W12_of m ρ c main_v17 (by decide), W11_of m ρ c main_v17 (by decide), W10_of m ρ c main_v17 (by decide), W9_of m ρ c main_v17 (by decide), W8_of m ρ c main_v17 (by decide), e7_v17]

theorem e17_v51 : W17 m ρ c (Proc.devRef .tc main_v51) = takeF (key1 (unit (qA m c)) (labelA m c) (keyA m c) (valA m c) (nearV m ρ c)) (oldest F (ageA m c)) := by
  refine (s2_12_v51 (W16 m ρ c)).trans ?_
  rw [W16_of m ρ c main_v37 (by decide), W15_of m ρ c main_v37 (by decide), W14_of m ρ c main_v37 (by decide), W13_of m ρ c main_v37 (by decide), e12_v37, e16_indices]

theorem e18_v52 : W18 m ρ c (Proc.devRef .tc main_v52) = select (rowFlag (hit (labelA m c) (valA m c) (nearV m ρ c))) (takeF (key1 (unit (qA m c)) (labelA m c) (keyA m c) (valA m c) (nearV m ρ c)) (oldest F (ageA m c))) (unit (qA m c)) := by
  refine (s2_13_v52 (W17 m ρ c)).trans ?_
  rw [W17_of m ρ c main_v50 (by decide), e16_v50, e17_v51, W17_of m ρ c main_v7 (by decide), W16_of m ρ c main_v7 (by decide), W15_of m ρ c main_v7 (by decide), W14_of m ρ c main_v7 (by decide), W13_of m ρ c main_v7 (by decide), W12_of m ρ c main_v7 (by decide), W11_of m ρ c main_v7 (by decide), W10_of m ρ c main_v7 (by decide), W9_of m ρ c main_v7 (by decide), W8_of m ρ c main_v7 (by decide), W7_of m ρ c main_v7 (by decide), W6_of m ρ c main_v7 (by decide), v7_at]
  rfl

theorem e19_v59 : W19 m ρ c (Proc.devRef .tc main_v59) = newKey (unit (qA m c)) (labelA m c) (keyA m c) (valA m c) (ageA m c) (nearV m ρ c) := by
  refine (s2_14_v59 (W18 m ρ c)).trans ?_
  rw [W18_of m ρ c main_v37 (by decide), W17_of m ρ c main_v37 (by decide), W16_of m ρ c main_v37 (by decide), W15_of m ρ c main_v37 (by decide), W14_of m ρ c main_v37 (by decide), W13_of m ρ c main_v37 (by decide), e12_v37, W18_of m ρ c main_indices (by decide), W17_of m ρ c main_indices (by decide), e16_indices, e18_v52]
  rfl

theorem e20_v60 : W20 m ρ c (Proc.devRef .tc main_v60) = takeI (valA m c) (oldest F (ageA m c)) := by
  refine (s2_15_v60 (W19 m ρ c)).trans ?_
  rw [W19_args m ρ c main_arg3 (by decide), W19_of m ρ c main_indices (by decide), W18_of m ρ c main_indices (by decide), W17_of m ρ c main_indices (by decide), e16_indices]

theorem e21_v61 : W21 m ρ c (Proc.devRef .tc main_v61) = select (hit (labelA m c) (valA m c) (nearV m ρ c)) (takeI (valA m c) (oldest F (ageA m c))) (labelA m c) := by
  refine (s2_16_v61 (W20 m ρ c)).trans ?_
  rw [W20_of m ρ c main_v17 (by decide), W19_of m ρ c main_v17 (by decide), W18_of m ρ c main_v17 (by decide), W17_of m ρ c main_v17 (by decide), W16_of m ρ c main_v17 (by decide), W15_of m ρ c main_v17 (by decide), W14_of m ρ c main_v17 (by decide), W13_of m ρ c main_v17 (by decide), W12_of m ρ c main_v17 (by decide), W11_of m ρ c main_v17 (by decide), W10_of m ρ c main_v17 (by decide), W9_of m ρ c main_v17 (by decide), W8_of m ρ c main_v17 (by decide), e7_v17, e20_v60, W20_args m ρ c main_arg1 (by decide)]

theorem e22_v68 : W22 m ρ c (Proc.devRef .tc main_v68) = newVal F (labelA m c) (valA m c) (ageA m c) (nearV m ρ c) := by
  refine (s2_17_v68 (W21 m ρ c)).trans ?_
  rw [W21_args m ρ c main_arg3 (by decide), W21_of m ρ c main_indices (by decide), W20_of m ρ c main_indices (by decide), W19_of m ρ c main_indices (by decide), W18_of m ρ c main_indices (by decide), W17_of m ρ c main_indices (by decide), e16_indices, e21_v61]
  rfl

theorem e23_v69 : W23 m ρ c (Proc.devRef .tc main_v69) = takeI (age1 (labelA m c) (valA m c) (ageA m c) (nearV m ρ c)) (oldest F (ageA m c)) := by
  refine (s2_18_v69 (W22 m ρ c)).trans ?_
  rw [W22_of m ρ c main_v48 (by decide), W21_of m ρ c main_v48 (by decide), W20_of m ρ c main_v48 (by decide), W19_of m ρ c main_v48 (by decide), W18_of m ρ c main_v48 (by decide), W17_of m ρ c main_v48 (by decide), e16_v48, W22_of m ρ c main_indices (by decide), W21_of m ρ c main_indices (by decide), W20_of m ρ c main_indices (by decide), W19_of m ρ c main_indices (by decide), W18_of m ρ c main_indices (by decide), W17_of m ρ c main_indices (by decide), e16_indices]

theorem e25_v70 : W25 m ρ c (Proc.devRef .tc main_v70) = select (hit (labelA m c) (valA m c) (nearV m ρ c)) (takeI (age1 (labelA m c) (valA m c) (ageA m c) (nearV m ρ c)) (oldest F (ageA m c))) zeros := by
  refine (s2_20_v70 (W24 m ρ c)).trans ?_
  rw [show W24 m ρ c (Proc.devRef .tc main_c_12) = _ from s2_19_c_12 (W23 m ρ c), W24_of m ρ c main_v17 (by decide), W23_of m ρ c main_v17 (by decide), W22_of m ρ c main_v17 (by decide), W21_of m ρ c main_v17 (by decide), W20_of m ρ c main_v17 (by decide), W19_of m ρ c main_v17 (by decide), W18_of m ρ c main_v17 (by decide), W17_of m ρ c main_v17 (by decide), W16_of m ρ c main_v17 (by decide), W15_of m ρ c main_v17 (by decide), W14_of m ρ c main_v17 (by decide), W13_of m ρ c main_v17 (by decide), W12_of m ρ c main_v17 (by decide), W11_of m ρ c main_v17 (by decide), W10_of m ρ c main_v17 (by decide), W9_of m ρ c main_v17 (by decide), W8_of m ρ c main_v17 (by decide), e7_v17, W24_of m ρ c main_v69 (by decide), e23_v69]
  rfl

theorem e26_v77 : W26 m ρ c (Proc.devRef .tc main_v77) = newAge F (labelA m c) (valA m c) (ageA m c) (nearV m ρ c) := by
  refine (s2_21_v77 (W25 m ρ c)).trans ?_
  rw [W25_of m ρ c main_v48 (by decide), W24_of m ρ c main_v48 (by decide), W23_of m ρ c main_v48 (by decide), W22_of m ρ c main_v48 (by decide), W21_of m ρ c main_v48 (by decide), W20_of m ρ c main_v48 (by decide), W19_of m ρ c main_v48 (by decide), W18_of m ρ c main_v48 (by decide), W17_of m ρ c main_v48 (by decide), e16_v48, W25_of m ρ c main_indices (by decide), W24_of m ρ c main_indices (by decide), W23_of m ρ c main_indices (by decide), W22_of m ρ c main_indices (by decide), W21_of m ρ c main_indices (by decide), W20_of m ρ c main_indices (by decide), W19_of m ρ c main_indices (by decide), W18_of m ρ c main_indices (by decide), W17_of m ρ c main_indices (by decide), e16_indices, e25_v70]
  rfl

/-- The updated keys at the end. -/
theorem end_v59 : W26 m ρ c (Proc.devRef .tc main_v59)
    = newKey (unit (qA m c)) (labelA m c) (keyA m c) (valA m c) (ageA m c) (nearV m ρ c) := by
  rw [W26_of m ρ c main_v59 (by decide), W25_of m ρ c main_v59 (by decide), W24_of m ρ c main_v59 (by decide), W23_of m ρ c main_v59 (by decide), W22_of m ρ c main_v59 (by decide), W21_of m ρ c main_v59 (by decide), W20_of m ρ c main_v59 (by decide), e19_v59]

/-- The updated values at the end. -/
theorem end_v68 : W26 m ρ c (Proc.devRef .tc main_v68)
    = newVal F (labelA m c) (valA m c) (ageA m c) (nearV m ρ c) := by
  rw [W26_of m ρ c main_v68 (by decide), W25_of m ρ c main_v68 (by decide), W24_of m ρ c main_v68 (by decide), W23_of m ρ c main_v68 (by decide), e22_v68]

/-- The posterior at the end, as region 1 leaves it. -/
theorem end_v13 : W26 m ρ c (Proc.devRef .tc main_v13) = W5 m ρ c (Proc.devRef .tc main_v13) := by
  rw [W26_of m ρ c main_v13 (by decide), W25_of m ρ c main_v13 (by decide), W24_of m ρ c main_v13 (by decide), W23_of m ρ c main_v13 (by decide), W22_of m ρ c main_v13 (by decide), W21_of m ρ c main_v13 (by decide), W20_of m ρ c main_v13 (by decide), W19_of m ρ c main_v13 (by decide), W18_of m ρ c main_v13 (by decide), W17_of m ρ c main_v13 (by decide), W16_of m ρ c main_v13 (by decide), W15_of m ρ c main_v13 (by decide), W14_of m ρ c main_v13 (by decide), W13_of m ρ c main_v13 (by decide), W12_of m ρ c main_v13 (by decide), W11_of m ρ c main_v13 (by decide), W10_of m ρ c main_v13 (by decide), W9_of m ρ c main_v13 (by decide), W8_of m ρ c main_v13 (by decide), W7_of m ρ c main_v13 (by decide), W6_of m ρ c main_v13 (by decide)]

end final

end Cert.KernelIdeal.Hand

end
-- ==== Proof.Region0.lean ====
/-
  The kernel's first region: the array it leaves holds the similarity of every query row with every key row.
-/
module

public import proofs.«01_k».proof.Proof.Gen.KernelIdeal.Frame
public import proofs.«01_k».proof.Proof.Similar
public import Idealize.ShloMosaic.Lib.Pipeline.Value
public import Idealize.ShloMosaic.Lib.Pointwise
public import Idealize.ShloMosaic.Lib.Tactic

@[expose] public section

set_option maxRecDepth 16384

noncomputable section

namespace Cert.KernelIdeal.Hand

open Idealize.ShloMosaic Idealize.ShloMosaic.TcCoe Cert.Hand
open Idealize.ShloMosaic.Pipeline (Dat)
open Cert.KernelIdeal Cert.KernelIdeal.Gen

theorem hz : (![0, 0] : Fin 2 → Nat) = fun _ => 0 := funext fun a => by fin_cases a <;> rfl

/-- The similarities of every row of one array with every row of another. -/
def simAll {a b n : Nat} (q : FVec Ideal ⟨2, ![a, n]⟩ .f32) (k : FVec Ideal ⟨2, ![b, n]⟩ .f32) : FVec Ideal ⟨2, ![a, b]⟩ .f32 :=
  fun i => cosine (fun d => q (ix2 (i 0) d)) (fun d => k (ix2 (i 1) d))

/-- One block's store: the similarities of the rows loaded. -/
theorem pay1_eq (x0 : FVec Ideal S1024x256 .f32) (x1 : FVec Ideal S2048x256 .f32) :
    k0_pay1 x0 x1 = simAll x0 x1 := by
  funext i
  obtain ⟨r, d, rfl⟩ : ∃ (r : Fin 1024) (d : Fin 2048), i = ix2 r d := ⟨i 0, i 1, by funext a; fin_cases a <;> rfl⟩
  pointwise [k0_pay1]
  rfl

variable (V : (c : Dev nD) → (b : Ref sig .tc) → Buf (Elt Ideal) ((c : Thread nD τ).loc b))

/-- Where the grid's points place the blocks of the two inputs and of the result. -/
theorem places0 : ∀ t : Fin cfg0.N, win0_0.index t 0 = 0 ∧ win0_0.index t 1 = 0 ∧ win0_1.index t 0 = t.val
    ∧ win0_1.index t 1 = 0 ∧ win0_2.index t 0 = 0 ∧ win0_2.index t 1 = t.val := by decide +kernel

/-- The similarities of the whole arrays as the region finds them. -/
def simOf (c : Dev nD) : FVec Ideal S1024x65536 .f32 :=
  simAll (a := 1024) (b := 65536) (n := 256) (V c main_arg0) (V c main_arg2)

/-- The query block is the whole query array. -/
theorem iblk0_0 (c : Dev nD) (t : Fin cfg0.N) (r : Fin 1024) (d : Fin 256) :
    (iblk0 V c 0 t : Vec Ideal S1024x256 .f32) (ix2 r d) = (V c main_arg0 : FVec Ideal S1024x256 .f32) (ix2 r d) := by
  obtain ⟨h0, h1, -⟩ := places0 t
  unfold iblk0
  rw [View.read_apply]
  show V c main_arg0 _ = V c main_arg0 _
  congr 1
  funext a
  apply Fin.ext
  match a with
  | ⟨0, _⟩ => show win0_0.index t 0 * 1024 + 1 * r.val = r.val; rw [h0]; omega
  | ⟨1, _⟩ => show win0_0.index t 1 * 256 + 1 * d.val = d.val; rw [h1]; omega

theorem N0 : cfg0.N = 32 := N_0

/-- The key block of a point is a run of 2048 key rows. -/
theorem iblk0_1 (c : Dev nD) (t : Fin cfg0.N) (r : Fin 2048) (d : Fin 256) :
    (iblk0 V c 1 t : Vec Ideal S2048x256 .f32) (ix2 r d) = (V c main_arg2 : FVec Ideal S65536x256 .f32)
      (ix2 ⟨t.val * 2048 + r.val, by have := t.isLt; have := N0; omega⟩ d) := by
  obtain ⟨-, -, h0, h1, -⟩ := places0 t
  unfold iblk0
  rw [View.read_apply]
  show V c main_arg2 _ = V c main_arg2 _
  congr 1
  funext a
  apply Fin.ext
  match a with
  | ⟨0, _⟩ => show win0_1.index t 0 * 2048 + 1 * r.val = t.val * 2048 + r.val; rw [h0]; omega
  | ⟨1, _⟩ => show win0_1.index t 1 * 256 + 1 * d.val = d.val; rw [h1]; omega

/-- What a point writes back is its block of the similarities. -/
theorem flushed0 (c : Dev nD) (t : Fin cfg0.N) :
    (dat0 V c).flushed 2 t = (win0_2.blk t).view.read (Elt Ideal) (simOf V c) := by
  show (cfg0.win 2).cut (grid0.coords t) ((dat0 V c).after 2 t) = _
  rw [after0_2]
  unfold out0_2
  rw [View.canon_unit_zero hz, View.ld_unit_zero hz, View.ld_unit_zero hz, pay1_eq]
  obtain ⟨-, -, -, -, h0, h1⟩ := places0 t
  funext i
  rw [View.read_apply]
  show simAll (iblk0 V c 0 t : Vec Ideal S1024x256 .f32) (iblk0 V c 1 t : Vec Ideal S2048x256 .f32) _ = simOf V c _
  unfold simOf simAll
  have e0 : ∀ (x y : Fin 1024), x.val = y.val → (fun d => (V c main_arg0 : FVec Ideal S1024x256 .f32) (ix2 x d))
      = fun d => (V c main_arg0 : FVec Ideal S1024x256 .f32) (ix2 y d) := fun x y h => by rw [Fin.ext h]
  have e1 : ∀ (x y : Fin 65536), x.val = y.val → (fun d => (V c main_arg2 : FVec Ideal S65536x256 .f32) (ix2 x d))
      = fun d => (V c main_arg2 : FVec Ideal S65536x256 .f32) (ix2 y d) := fun x y h => by rw [Fin.ext h]
  refine congrArg₂ cosine ((funext fun d => iblk0_0 V c t _ d).trans (e0 _ _ ?_))
    ((funext fun d => iblk0_1 V c t _ d).trans (e1 _ _ ?_))
  · show (i 0).val = win0_2.index t 0 * 1024 + 1 * (i 0).val
    rw [h0]; omega
  · show t.val * 2048 + (i 1).val = win0_2.index t 1 * 2048 + 1 * (i 1).val
    rw [h1]; omega

/-- The extents of the result's blocks. -/
theorem extents0 : ∀ t : Fin cfg0.N, win0_2.index t 0 * win0_2.size 0 = 0 ∧ win0_2.xsize (grid0.coords t) 0 = 1024
    ∧ win0_2.index t 1 * win0_2.size 1 = t.val * 2048 ∧ win0_2.xsize (grid0.coords t) 1 = 2048 := by decide +kernel

/-- Which indices a point's block of the result holds. -/
theorem mem_blk0 (t : Fin cfg0.N) (i : S1024x65536.Idx) :
    i ∈ ((cfg0.win 2).blk t).view.set ↔ t.val * 2048 ≤ (i 1 : Nat) ∧ (i 1 : Nat) < t.val * 2048 + 2048 := by
  show i ∈ ((View.whole main_v8).slice (win0_2.rect t)).set ↔ _
  rw [View.set_slice_whole, Rect.mem_set_unit]
  have hi0 : (i 0 : Nat) < 1024 := (i 0).isLt
  obtain ⟨h0, h1, h2, h3⟩ := extents0 t
  refine ⟨fun h => ?_, fun h a => ?_⟩
  · have : win0_2.index t 1 * win0_2.size 1 ≤ (i 1 : Nat) ∧ (i 1 : Nat) < win0_2.index t 1 * win0_2.size 1 + win0_2.xsize (grid0.coords t) 1 := h 1
    rw [h2, h3] at this; exact this
  · match a with
    | ⟨0, _⟩ => show win0_2.index t 0 * win0_2.size 0 ≤ (i 0 : Nat) ∧ (i 0 : Nat) < win0_2.index t 0 * win0_2.size 0 + win0_2.xsize (grid0.coords t) 0
                rw [h0, h1]; omega
    | ⟨1, _⟩ => show win0_2.index t 1 * win0_2.size 1 ≤ (i 1 : Nat) ∧ (i 1 : Nat) < win0_2.index t 1 * win0_2.size 1 + win0_2.xsize (grid0.coords t) 1
                rw [h2, h3]; exact h

/-- The blocks tile the result. -/
theorem cover0 (i : S1024x65536.Idx) :
    ∃ t : Fin cfg0.N, (cfg0.win 2).flush t = true ∧ i ∈ ((cfg0.win 2).blk t).view.set := by
  have h1 : (i 1 : Nat) < 65536 := (i 1).isLt
  have hN := N0
  refine ⟨⟨(i 1 : Nat) / 2048, by omega⟩, flush0_2 _, ?_⟩
  rw [mem_blk0]
  dsimp only
  omega

/-- The region leaves every similarity. -/
theorem final0 (c : Dev nD) : (dat0 V c).arrAt 2 cfg0.N = simOf V c :=
  (dat0 V c).arrAt_eq_of_cover 2 (simOf V c) (fun t _ => flushed0 V c t) cover0

end Cert.KernelIdeal.Hand

end
-- ==== Proof.Region1.lean ====
/-
  The kernel's second region: the two arrays it leaves hold, in every column of a row, the row's weighted mean and its
  nearest column.
-/
module

public import proofs.«01_k».proof.Proof.Region0
public import proofs.«01_k».proof.Proof.RowRead

@[expose] public section

set_option maxRecDepth 16384

noncomputable section

namespace Cert.KernelIdeal.Hand

open Idealize.ShloMosaic Idealize.ShloMosaic.TcCoe Cert.Hand
open Idealize.ShloMosaic.Pipeline (Dat)
open Cert.KernelIdeal Cert.KernelIdeal.Gen

section block
variable (x0 : FVec Ideal S32x65536 .f32) (x1 : FVec Ideal S1x65536 .f32)

/-- The similarities a block computes with are those loaded. -/
theorem simV_eq : simV x0 x1 = x0 := by
  funext i
  obtain ⟨r, d, rfl⟩ : ∃ (r : Fin 32) (d : Fin 65536), i = ix2 r d := ⟨i 0, i 1, by funext a; fin_cases a <;> rfl⟩
  unfold simV k1_pay43
  rw [View.ld_unit_zero hz]
  pointwise [k1_pay3]

/-- The values a block computes with are those loaded. -/
theorem pay42_eq : k1_pay42 x1 = x1 := by
  funext i
  obtain ⟨r, d, rfl⟩ : ∃ (r : Fin 1) (d : Fin 65536), i = ix2 r d := ⟨i 0, i 1, by funext a; fin_cases a <;> rfl⟩
  pointwise [k1_pay42]

/-- A block's first store. -/
theorem out1_2_row (r : Fin 32) (l : Fin 128) :
    out1_2 (F := Ideal) x0 x1 (ix2 r l) = mean (fun k => x0 (ix2 r k)) (fun k => x1 (ix2 0 k)) := by
  unfold out1_2
  rw [View.canon_unit_zero hz, View.ld_unit_zero hz, pay42_eq, pay1_row]
  unfold k1_pay41
  dsimp only
  rw [sum_row]
  have e : k1_pay43 x0 x1 = x0 := simV_eq x0 x1
  have h : k1_pay40 (F := Ideal) (k1_pay43 (F := Ideal) x0 x1) (k1_pay73 (F := Ideal) x0 x1) = weightV x0 (runV x0 startV) := by
    have := pay40 (F := Ideal) x0 x1
    rw [simV_eq] at this
    rw [e]
    exact this
  rw [h]
  simp only [weightV_row]
  rfl

/-- A block's second store. -/
theorem out1_3_row (r : Fin 32) (l : Fin 128) :
    out1_3 (F := Ideal) x0 x1 (ix2 r l) = firstMax (fun k => x0 (ix2 r k)) := by
  unfold out1_3
  rw [View.canon_unit_zero hz, pay2_row]
  have e : k1_pay43 x0 x1 = x0 := simV_eq x0 x1
  rw [e, pay39_row]

/-- A block's first store at any of its indices. -/
theorem out1_2_at (i : S32x128.Idx) :
    out1_2 (F := Ideal) x0 x1 i = mean (fun k => x0 (ix2 (i 0) k)) (fun k => x1 (ix2 0 k)) := by
  obtain ⟨r, l, rfl⟩ : ∃ (r : Fin 32) (l : Fin 128), i = ix2 r l := ⟨i 0, i 1, by funext a; fin_cases a <;> rfl⟩
  exact out1_2_row x0 x1 r l

/-- A block's second store at any of its indices. -/
theorem out1_3_at (i : S32x128.Idx) : out1_3 (F := Ideal) x0 x1 i = firstMax (fun k => x0 (ix2 (i 0) k)) := by
  obtain ⟨r, l, rfl⟩ : ∃ (r : Fin 32) (l : Fin 128), i = ix2 r l := ⟨i 0, i 1, by funext a; fin_cases a <;> rfl⟩
  exact out1_3_row x0 x1 r l

end block

variable (V : (c : Dev nD) → (b : Ref sig .tc) → Buf (Elt Ideal) ((c : Thread nD τ).loc b))

/-- Where the grid's points place the blocks. -/
theorem places1 : ∀ t : Fin cfg1.N, win1_0.index t 0 = t.val ∧ win1_0.index t 1 = 0 ∧ win1_1.index t 0 = 0
    ∧ win1_1.index t 1 = 0 ∧ win1_2.index t 0 = t.val ∧ win1_2.index t 1 = 0
    ∧ win1_3.index t 0 = t.val ∧ win1_3.index t 1 = 0 := by decide +kernel

/-- The extents of the results' blocks. -/
theorem extents1 : ∀ t : Fin cfg1.N, (win1_2.index t 0 * win1_2.size 0 = t.val * 32 ∧ win1_2.xsize (grid1.coords t) 0 = 32
    ∧ win1_2.index t 1 * win1_2.size 1 = 0 ∧ win1_2.xsize (grid1.coords t) 1 = 128)
    ∧ (win1_3.index t 0 * win1_3.size 0 = t.val * 32 ∧ win1_3.xsize (grid1.coords t) 0 = 32
    ∧ win1_3.index t 1 * win1_3.size 1 = 0 ∧ win1_3.xsize (grid1.coords t) 1 = 128) := by decide +kernel

theorem N1 : cfg1.N = 32 := N_1

/-- A row of the similarities as the region finds them. -/
def simRow (c : Dev nD) (r : Fin 1024) (k : Fin 65536) : EReal := (V c main_v8 : FVec Ideal S1024x65536 .f32) (ix2 r k)

/-- The values as the region finds them. -/
def valRow (c : Dev nD) (k : Fin 65536) : EReal := (V c main_v10 : FVec Ideal S1x65536 .f32) (ix2 0 k)

/-- The first result: every row's weighted mean. -/
def meanOf (c : Dev nD) : FVec Ideal S1024x128 .f32 := fun i => mean (simRow V c (i 0)) (valRow V c)

/-- The second result: every row's nearest column. -/
def nearOf (c : Dev nD) : IVec S1024x128 32 := fun i => firstMax (simRow V c (i 0))

/-- The block of similarities of a point is a run of 32 rows. -/
theorem iblk1_0 (c : Dev nD) (t : Fin cfg1.N) (r : Fin 32) (k : Fin 65536) :
    (iblk1 V c 0 t : Vec Ideal S32x65536 .f32) (ix2 r k)
      = simRow V c ⟨t.val * 32 + r.val, by have := t.isLt; have := N1; omega⟩ k := by
  obtain ⟨h0, h1, -⟩ := places1 t
  unfold iblk1 simRow
  rw [View.read_apply]
  show V c main_v8 _ = V c main_v8 _
  congr 1
  funext a
  apply Fin.ext
  match a with
  | ⟨0, _⟩ => show win1_0.index t 0 * 32 + 1 * r.val = t.val * 32 + r.val; rw [h0]; omega
  | ⟨1, _⟩ => show win1_0.index t 1 * 65536 + 1 * k.val = k.val; rw [h1]; omega

/-- The block of values is the whole row of values. -/
theorem iblk1_1 (c : Dev nD) (t : Fin cfg1.N) (k : Fin 65536) :
    (iblk1 V c 1 t : Vec Ideal S1x65536 .f32) (ix2 0 k) = valRow V c k := by
  obtain ⟨-, -, h0, h1, -⟩ := places1 t
  unfold iblk1 valRow
  rw [View.read_apply]
  show V c main_v10 _ = V c main_v10 _
  congr 1
  funext a
  apply Fin.ext
  match a with
  | ⟨0, _⟩ => show win1_1.index t 0 * 1 + 1 * 0 = 0; rw [h0]
  | ⟨1, _⟩ => show win1_1.index t 1 * 65536 + 1 * k.val = k.val; rw [h1]; omega

/-- Two indices of the rows' array with the same row. -/
theorem simRow_congr (c : Dev nD) {r r' : Fin 1024} (h : r.val = r'.val) : simRow V c r = simRow V c r' := by rw [Fin.ext h]

/-- What a point writes back of the first result is its block of the means. -/
theorem flushed1_2 (c : Dev nD) (t : Fin cfg1.N) :
    (dat1 V c).flushed 2 t = (win1_2.blk t).view.read (Elt Ideal) (meanOf V c) := by
  show (cfg1.win 2).cut (grid1.coords t) ((dat1 V c).after 2 t) = _
  rw [after1_2]
  obtain ⟨-, -, -, -, h0, h1, -⟩ := places1 t
  funext i
  have hR : ∀ G : FVec Ideal S1024x128 .f32, (win1_2.blk t).view.read (Elt Ideal) G i = G ((win1_2.blk t).view.emb i) := fun _ => rfl
  refine Eq.trans ?_ (hR (meanOf V c)).symm
  refine (out1_2_at (iblk1 V c 0 t) (iblk1 V c 1 t) ((cfg1.win 2).xinj (grid1.coords t) i)).trans ?_
  unfold meanOf
  refine congrArg₂ mean ((funext fun k => iblk1_0 V c t _ k).trans (simRow_congr V c ?_)) (funext fun k => iblk1_1 V c t k)
  show t.val * 32 + (i 0).val = win1_2.index t 0 * 32 + 1 * (i 0).val
  rw [h0]; omega

/-- What a point writes back of the second result is its block of the nearest columns. -/
theorem flushed1_3 (c : Dev nD) (t : Fin cfg1.N) :
    (dat1 V c).flushed 3 t = (win1_3.blk t).view.read (Elt Ideal) (nearOf V c) := by
  show (cfg1.win 3).cut (grid1.coords t) ((dat1 V c).after 3 t) = _
  rw [after1_3]
  obtain ⟨-, -, -, -, -, -, h0, h1⟩ := places1 t
  funext i
  have hR : ∀ G : IVec S1024x128 32, (win1_3.blk t).view.read (Elt Ideal) G i = G ((win1_3.blk t).view.emb i) := fun _ => rfl
  refine Eq.trans ?_ (hR (nearOf V c)).symm
  refine (out1_3_at (iblk1 V c 0 t) (iblk1 V c 1 t) ((cfg1.win 3).xinj (grid1.coords t) i)).trans ?_
  unfold nearOf
  refine congrArg firstMax ((funext fun k => iblk1_0 V c t _ k).trans (simRow_congr V c ?_))
  show t.val * 32 + (i 0).val = win1_3.index t 0 * 32 + 1 * (i 0).val
  rw [h0]; omega

/-- The blocks of the first result tile it. -/
theorem cover1_2 (i : S1024x128.Idx) :
    ∃ t : Fin cfg1.N, (cfg1.win 2).flush t = true ∧ i ∈ ((cfg1.win 2).blk t).view.set := by
  have hi0 : (i 0 : Nat) < 1024 := (i 0).isLt
  have hi1 : (i 1 : Nat) < 128 := (i 1).isLt
  have hN := N1
  obtain ⟨t, ht⟩ : ∃ t : Fin cfg1.N, t.val = (i 0 : Nat) / 32 := ⟨⟨(i 0 : Nat) / 32, by omega⟩, rfl⟩
  refine ⟨t, flush1_2 _, ?_⟩
  show i ∈ ((View.whole main_v11_0).slice (win1_2.rect t)).set
  rw [View.set_slice_whole, Rect.mem_set_unit]
  obtain ⟨⟨h0, h1, h2, h3⟩, -⟩ := extents1 t
  intro a
  match a with
  | ⟨0, _⟩ => show win1_2.index t 0 * win1_2.size 0 ≤ (i 0 : Nat) ∧ (i 0 : Nat) < win1_2.index t 0 * win1_2.size 0 + win1_2.xsize (grid1.coords t) 0
              rw [h0, h1]; omega
  | ⟨1, _⟩ => show win1_2.index t 1 * win1_2.size 1 ≤ (i 1 : Nat) ∧ (i 1 : Nat) < win1_2.index t 1 * win1_2.size 1 + win1_2.xsize (grid1.coords t) 1
              rw [h2, h3]; omega

/-- The blocks of the second result tile it. -/
theorem cover1_3 (i : S1024x128.Idx) :
    ∃ t : Fin cfg1.N, (cfg1.win 3).flush t = true ∧ i ∈ ((cfg1.win 3).blk t).view.set := by
  have hi0 : (i 0 : Nat) < 1024 := (i 0).isLt
  have hi1 : (i 1 : Nat) < 128 := (i 1).isLt
  have hN := N1
  obtain ⟨t, ht⟩ : ∃ t : Fin cfg1.N, t.val = (i 0 : Nat) / 32 := ⟨⟨(i 0 : Nat) / 32, by omega⟩, rfl⟩
  refine ⟨t, flush1_3 _, ?_⟩
  show i ∈ ((View.whole main_v11_1).slice (win1_3.rect t)).set
  rw [View.set_slice_whole, Rect.mem_set_unit]
  obtain ⟨-, h0, h1, h2, h3⟩ := extents1 t
  intro a
  match a with
  | ⟨0, _⟩ => show win1_3.index t 0 * win1_3.size 0 ≤ (i 0 : Nat) ∧ (i 0 : Nat) < win1_3.index t 0 * win1_3.size 0 + win1_3.xsize (grid1.coords t) 0
              rw [h0, h1]; omega
  | ⟨1, _⟩ => show win1_3.index t 1 * win1_3.size 1 ≤ (i 1 : Nat) ∧ (i 1 : Nat) < win1_3.index t 1 * win1_3.size 1 + win1_3.xsize (grid1.coords t) 1
              rw [h2, h3]; omega

/-- The region leaves every mean, -/
theorem final1_2 (c : Dev nD) : (dat1 V c).arrAt 2 cfg1.N = meanOf V c :=
  (dat1 V c).arrAt_eq_of_cover 2 (meanOf V c) (fun t _ => flushed1_2 V c t) cover1_2

/-- and every nearest column. -/
theorem final1_3 (c : Dev nD) : (dat1 V c).arrAt 3 cfg1.N = nearOf V c :=
  (dat1 V c).arrAt_eq_of_cover 3 (nearOf V c) (fun t _ => flushed1_3 V c t) cover1_3

end Cert.KernelIdeal.Hand

end
-- ==== Proof.KernelRows.lean ====
/-
  The kernel's posterior and nearest slots as functions of its arguments, row by row.
-/
module

public import proofs.«01_k».proof.Proof.HostTail
public import proofs.«01_k».proof.Proof.Region1

@[expose] public section

set_option maxRecDepth 16384

noncomputable section

namespace Cert.KernelIdeal.Hand

open Idealize.ShloMosaic Idealize.ShloMosaic.TcCoe Cert.Hand
open Cert.KernelIdeal Cert.KernelIdeal.Gen

/-- The similarities of a query row with every key row. -/
def sims (q : FVec Ideal S1024x256 .f32) (k : FVec Ideal S65536x256 .f32) (r : Fin 1024) (j : Fin 65536) : EReal :=
  cosine (fun d => q (ix2 r d)) (fun d => k (ix2 j d))

/-- The values as extended reals. -/
def vals (v : IVec S65536 32) (j : Fin 65536) : EReal := FloatOps.sitofp (F := Ideal) .f32 (v (ix1 j))

variable (m : (ℓ : Loc nD τ sig) → Buf (Elt Ideal) ℓ) (ρ : Dev nD → PrngReg) (c : Dev nD)

/-- The second region finds the similarities of the arguments. -/
theorem simRow_eq (r : Fin 1024) : simRow (V3 m ρ) c r = sims (qA m c) (keyA m c) r := by
  have h : (V3 m ρ c main_v8 : FVec Ideal S1024x65536 .f32) = simOf (V1 m ρ) c :=
    (W3_of m ρ c main_v8 (by decide)).trans ((W2_arr m ρ c 2).trans (final0 (V1 m ρ) c))
  have hq : (V1 m ρ c main_arg0 : FVec Ideal S1024x256 .f32) = qA m c := W1_args m ρ c main_arg0 (by decide)
  have hk : (V1 m ρ c main_arg2 : FVec Ideal S65536x256 .f32) = keyA m c := W1_args m ρ c main_arg2 (by decide)
  funext j
  unfold simRow
  rw [h]
  unfold simOf
  rw [hq, hk]
  rfl

/-- The second region finds the values of the arguments. -/
theorem valRow_eq : valRow (V3 m ρ) c = vals (valA m c) := by
  have h : (V3 m ρ c main_v10 : FVec Ideal S1x65536 .f32)
      = shapeCast S1x65536 (sitofp (F := Ideal) .f32 (valA m c)) shapeCasts_S65536_S1x65536 := by
    refine (s1_v10 (W2 m ρ c)).trans ?_
    rw [W2_args m ρ c main_arg3 (by decide)]
  funext j
  unfold valRow vals
  rw [h]
  pointwise []

/-- The nearest slot of a row. -/
theorem near_row (r : Fin 1024) : nearV m ρ c (ix1 r) = firstMax (sims (qA m c) (keyA m c) r) := by
  have h : (W4 m ρ c (Proc.devRef .tc main_v11_1) : IVec S1024x128 32) = nearOf (V3 m ρ) c :=
    (W4_arr m ρ c 3).trans (final1_3 (V3 m ρ) c)
  have h5 : nearV m ρ c = shapeCast S1024 (extractStridedSlice S1024x1 ![0, 0] (nearOf (V3 m ρ) c)
      slices_S1024x128_S1024x1_0_0) shapeCasts_S1024x1_S1024 := by
    refine (s2_v15 (W4 m ρ c)).trans ?_
    rw [h]
  rw [h5, ← simRow_eq m ρ]
  have e : ∀ x : IVec S1024x128 32, shapeCast S1024 (extractStridedSlice S1024x1 ![0, 0] x
      slices_S1024x128_S1024x1_0_0) shapeCasts_S1024x1_S1024 (ix1 r) = x (ix2 r 0) := by
    intro x
    pointwise []
  rw [e]
  rfl

/-- The posterior of a row. -/
theorem post_row (r : Fin 1024) : (W26 m ρ c (Proc.devRef .tc main_v13) : FVec Ideal S1024 .f32) (ix1 r)
    = mean (sims (qA m c) (keyA m c) r) (vals (valA m c)) := by
  have h : (W4 m ρ c (Proc.devRef .tc main_v11_0) : FVec Ideal S1024x128 .f32) = meanOf (V3 m ρ) c :=
    (W4_arr m ρ c 2).trans (final1_2 (V3 m ρ) c)
  have h5 : (W26 m ρ c (Proc.devRef .tc main_v13) : FVec Ideal S1024 .f32) = shapeCast S1024
      (extractStridedSlice S1024x1 ![0, 0] (meanOf (V3 m ρ) c) slices_S1024x128_S1024x1_0_0) shapeCasts_S1024x1_S1024 := by
    refine (end_v13 m ρ c).trans ((s2_v13 (W4 m ρ c)).trans ?_)
    rw [h]
  rw [h5, ← simRow_eq m ρ, ← valRow_eq m ρ]
  have e : ∀ x : FVec Ideal S1024x128 .f32, shapeCast S1024 (extractStridedSlice S1024x1 ![0, 0] x
      slices_S1024x128_S1024x1_0_0) shapeCasts_S1024x1_S1024 (ix1 r) = x (ix2 r 0) := by
    intro x
    pointwise []
  rw [e]
  rfl

end Cert.KernelIdeal.Hand

end
-- ==== Proof.Mask.lean ====
/-
  The mask's first array: where it is set, a row's 256th and 257th greatest similarities are apart.
-/
module

public import proofs.«01_k».proof.On_selected
public import proofs.«01_k».proof.Proof.TopK
public import proofs.«01_k».proof.Proof.RowMath
public import proofs.«01_k».proof.Proof.KernelRows

@[expose] public section

set_option maxRecDepth 16384

noncomputable section

namespace Cert.On_selected.Hand

open Idealize.ShloMosaic Idealize.ShloMosaic.StableHlo Cert.Hand
open Cert.KernelIdeal.Hand (sims)
open Cert.On_selected Cert.On_selected.Facts

variable [Cert.On_selected.Facts]

/-- The mask's similarity matrix. -/
def matM (q : FVec Ideal S1024x256 .f32) (k : FVec Ideal S65536x256 .f32) : FVec Ideal S1024x65536 .f32 :=
  Host.dotGeneral dot_S1024x256_S256x65536_S1024x65536_1_0_0_1_n_n none
    (Host.divf q (broadcastInDim S1024x256 ![0, 1] bcast_S1024x1_S1024x256_0_1 (maximumf (Host.sqrt (broadcastInDim S1024x1 ![0] bcast_S1024_S1024x1_0 (Host.reduceAdd (mulf q q) (constant S_ .f32 0x00000000#32) reducesTo_S1024x256_S1024_d1 h_S_))) (broadcastInDim S1024x1 ![] bcast_S_S1024x1 (constant S_ .f32 0x2B8CBCCC#32)))))
    (transpose S256x65536 [1, 0] (Host.divf k (broadcastInDim S65536x256 ![0, 1] bcast_S65536x1_S65536x256_0_1 (maximumf (Host.sqrt (broadcastInDim S65536x1 ![0] bcast_S65536_S65536x1_0 (Host.reduceAdd (mulf k k) (constant S_ .f32 0x00000000#32) reducesTo_S65536x256_S65536_d1 h_S_))) (broadcastInDim S65536x1 ![] bcast_S_S65536x1 (constant S_ .f32 0x2B8CBCCC#32))))) transposes_S65536x256_S256x65536_1_0)

/-- The comparison of two columns of the sorted similarities. -/
def gapM (y : FVec Ideal S1024x257 .f32) : IVec S1024 1 :=
  cmpf .oge (subf (shapeCast S1024 (extractStridedSlice S1024x1 ![0, 255] y slices_S1024x257_S1024x1_0_255) shapeCasts_S1024x1_S1024)
      (shapeCast S1024 (extractStridedSlice S1024x1 ![0, 256] y slices_S1024x257_S1024x1_0_256) shapeCasts_S1024x1_S1024))
    (broadcastInDim S1024 ![] bcast_S_S1024 (constant S_ .f32 0x33800000#32))

/-- An entry of the mask's similarity matrix. -/
theorem matM_row (q : FVec Ideal S1024x256 .f32) (k : FVec Ideal S65536x256 .f32) (r : Fin 1024) (j : Fin 65536) :
    matM q k (ix2 r j) = sims q k r j := by
  unfold sims cosine unitRow
  pointwise [matM]

/-- An entry of the comparison. -/
theorem gapM_row (y : FVec Ideal S1024x257 .f32) (r : Fin 1024) : gapM y (ix1 r)
    = BitVec.ofBool (decide (Ideal.ofBits .f32 864026624#32 ≤ y (ix2 r 255) - y (ix2 r 256))) := by
  pointwise [gapM]

/-- The least gap. -/
theorem gap_val : Ideal.ofBits .f32 864026624#32 = ((2 ^ (-24 : Int) : ℝ) : EReal) := by
  rw [ofBits_pos _ (by decide)]
  congr 1
  norm_num [mag]

/-- Where the mask is set, the 256th and the 257th greatest similarities are at least `2⁻²⁴` apart. -/
theorem gap (q : FVec Ideal S1024x256 .f32) (a1 : IVec S1024 32) (k : FVec Ideal S65536x256 .f32) (a3 a4 : IVec S65536 32)
    (r : Fin 1024) (h : (Cert.On_selected.fn (F := Ideal) q a1 k a3 a4).1 (ix1 r) = 1#1) :
    ((2 ^ (-24 : Int) : ℝ) : EReal) ≤ sims q k r (order (sims q k r) ⟨255, by norm_num⟩)
      - sims q k r (order (sims q k r) ⟨256, by norm_num⟩) := by
  have e : (Cert.On_selected.fn (F := Ideal) q a1 k a3 a4).1
      = gapM (Host.topK S1024x257 1 (FloatOps.cmpfTotal .gt) (matM q k) sliceFits_S1024x65536_S1024x257).1 := rfl
  have hrow : row (matM q k) r = sims q k r := funext fun j => matM_row q k r j
  have ht : ∀ j : Fin 257, (Host.topK S1024x257 1 (FloatOps.cmpfTotal .gt) (matM q k) sliceFits_S1024x65536_S1024x257).1 (ix2 r j)
      = sims q k r (order (sims q k r) (j.castLE (by norm_num))) := by
    intro j
    refine (topK_val (matM q k) sliceFits_S1024x65536_S1024x257 (by norm_num) r j).trans ?_
    rw [hrow]
  rw [e, gapM_row, ht, ht, gap_val] at h
  by_contra hn
  have hd := decide_eq_false hn
  exact absurd ((congrArg BitVec.ofBool hd).symm.trans h) (by decide)

end Cert.On_selected.Hand

end
-- ==== Proof.RefTail.lean ====
/-
  The reference's run, read through the functions that also describe the kernel's last host operations: its three
  updated memories are `newKey`, `newVal` and `newAge` of the arguments and of its own nearest slots.
-/
module

public import proofs.«01_k».proof.Proof.HostTail
public import proofs.«01_k».proof.Proof.Gen.ReferenceIdeal.Run

@[expose] public section

set_option maxRecDepth 16384

noncomputable section

namespace Cert.ReferenceIdeal.Hand

open Idealize.ShloMosaic Idealize.ShloMosaic.TcCoe Idealize.ShloMosaic.StableHlo
open Idealize.SL.Sem
open Cert.ReferenceIdeal Cert.ReferenceIdeal.Value
open Cert.KernelIdeal.Hand (unit newKey newVal newAge takeI oldest)

variable {F : FTy → Type} [FloatOps F] (V : Valuation τ sig (Elt F))

/-- The five arguments under a valuation. -/
abbrev qA : FVec F S1024x256 .f32 := V (Proc.devRef .tc main_arg0)
abbrev labelA : IVec S1024 32 := V (Proc.devRef .tc main_arg1)
abbrev keyA : FVec F S65536x256 .f32 := V (Proc.devRef .tc main_arg2)
abbrev valA : IVec S65536 32 := V (Proc.devRef .tc main_arg3)
abbrev ageA : IVec S65536 32 := V (Proc.devRef .tc main_arg4)

/-- The reference's normalized queries. -/
theorem qh_eq : res_main_v4 V = unit (qA V) := rfl

/-- The reference's updated keys. -/
theorem newKey_eq : val2 V (Proc.devRef .tc main_v69)
    = newKey (unit (qA V)) (labelA V) (keyA V) (valA V) (ageA V) (res_main_v28 V) := by
  refine (val2_main_v69 V).trans ?_
  rfl

/-- The reference's updated values. -/
theorem newVal_eq : val2 V (Proc.devRef .tc main_v78)
    = newVal F (labelA V) (valA V) (ageA V) (res_main_v28 V) := by
  refine (val2_main_v78 V).trans ?_
  rfl

/-- The reference's updated ages. -/
theorem newAge_eq : val2 V (Proc.devRef .tc main_v87)
    = newAge F (labelA V) (valA V) (ageA V) (res_main_v28 V) := by
  refine (val2_main_v87 V).trans ?_
  rfl

end Cert.ReferenceIdeal.Hand

end
-- ==== Proof.RefRows.lean ====
/-
  The reference's nearest slots and posterior as functions of its arguments, row by row.
-/
module

public import proofs.«01_k».proof.Proof.RefTail
public import proofs.«01_k».proof.Proof.TopK
public import proofs.«01_k».proof.Proof.KernelRows
public import proofs.«01_k».proof.Proof.RowMath
public import Idealize.ShloMosaic.Lib.ValueIdxCore

@[expose] public section

set_option maxRecDepth 16384

noncomputable section

namespace Cert.ReferenceIdeal.Hand

open Idealize.ShloMosaic Idealize.ShloMosaic.TcCoe Idealize.ShloMosaic.StableHlo Cert.Hand
open Cert.ReferenceIdeal Cert.ReferenceIdeal.Gen Cert.ReferenceIdeal.Value
open Cert.KernelIdeal.Hand (sims vals)

/-! The reference's stages, as functions of typed arrays. -/

/-- The similarity matrix. -/
def matV (q : FVec Ideal S1024x256 .f32) (k : FVec Ideal S65536x256 .f32) : FVec Ideal S1024x65536 .f32 :=
  Host.dotGeneral dot_S1024x256_S256x65536_S1024x65536_1_0_0_1_n_n none
    (Host.divf q (broadcastInDim S1024x256 ![0, 1] bcast_S1024x1_S1024x256_0_1 (maximumf (Host.sqrt (broadcastInDim S1024x1 ![0] bcast_S1024_S1024x1_0 (Host.reduceAdd (mulf q q) (constant S_ .f32 0x00000000#32) reducesTo_S1024x256_S1024_d1 h_S_))) (broadcastInDim S1024x1 ![] bcast_S_S1024x1 (constant S_ .f32 0x2B8CBCCC#32)))))
    (transpose S256x65536 [1, 0] (Host.divf k (broadcastInDim S65536x256 ![0, 1] bcast_S65536x1_S65536x256_0_1 (maximumf (Host.sqrt (broadcastInDim S65536x1 ![0] bcast_S65536_S65536x1_0 (Host.reduceAdd (mulf k k) (constant S_ .f32 0x00000000#32) reducesTo_S65536x256_S65536_d1 h_S_))) (broadcastInDim S65536x1 ![] bcast_S_S65536x1 (constant S_ .f32 0x2B8CBCCC#32))))) transposes_S65536x256_S256x65536_1_0)

/-- Exponentials of the entries less their row's greatest. -/
def softV (y : FVec Ideal S1024x256 .f32) : FVec Ideal S1024x256 .f32 :=
  Host.exp (subf y (broadcastInDim S1024x256 ![0, 1] bcast_S1024x1_S1024x256_0_1 (broadcastInDim S1024x1 ![0] bcast_S1024_S1024x1_0 (maximumf (broadcastInDim S1024 ![] bcast_S_S1024 (constant S_ .f32 0xFF800000#32)) (Host.reduce FloatOps.maximumf y (constant S_ .f32 0xFF800000#32) reducesTo_S1024x256_S1024_d1 h_S_)))))

/-- Indices counted from the end where negative, with a last axis of one. -/
def wrapV (i : IVec S1024x256 32) : IVec S1024x256x1 32 :=
  broadcastInDim S1024x256x1 ![0, 1] bcast_S1024x256_S1024x256x1_0_1 (select (cmpi .slt i (broadcastInDim S1024x256 ![] bcast_S_S1024x256 (constantI S_ 32 0#32))) (addi i (broadcastInDim S1024x256 ![] bcast_S_S1024x256 (constantI S_ 32 65536#32))) i)

/-- Which of the wrapped indices name a slot. -/
def insideV (w : IVec S1024x256x1 32) : IVec S1024x256 1 :=
  Host.reduce IntOp.andi (andi (cmpi .sge w (broadcastInDim S1024x256x1 ![] bcast_S_S1024x256x1 (constantI S_ 32 0#32))) (cmpi .sle w (broadcastInDim S1024x256x1 ![0, 1, 2] bcast_S1x1x1_S1024x256x1_0_1_2 (broadcastInDim S1x1x1 ![2] bcast_S1_S1x1x1_2 (constantI S1 32 65535#32))))) (constantI S_ 1 1#1) reducesTo_S1024x256x1_S1024x256_d2 h_S_

/-- The values taken at an array of indices. -/
def takeV (v : IVec S65536 32) (i : IVec S1024x256 32) : IVec S1024x256 32 :=
  select (insideV (wrapV i)) (Host.gather gather_S65536_S1024x256x1_S1024x256_n_0_n_n_0_2_1 v (wrapV i)) (broadcastInDim S1024x256 ![] bcast_S_S1024x256 (constantI S_ 32 2147483648#32))

/-- The mean of the values under the normalized exponentials. -/
def meanV (e : FVec Ideal S1024x256 .f32) (t : IVec S1024x256 32) : FVec Ideal S1024 .f32 :=
  Host.reduceAdd (mulf (Host.divf e (broadcastInDim S1024x256 ![0, 1] bcast_S1024x1_S1024x256_0_1 (broadcastInDim S1024x1 ![0] bcast_S1024_S1024x1_0 (Host.reduceAdd e (constant S_ .f32 0x00000000#32) reducesTo_S1024x256_S1024_d1 h_S_)))) (sitofp .f32 t)) (constant S_ .f32 0x00000000#32) reducesTo_S1024x256_S1024_d1 h_S_

/-! The stages read at an index. -/

/-- An entry of the similarity matrix. -/
theorem matV_row (q : FVec Ideal S1024x256 .f32) (k : FVec Ideal S65536x256 .f32) (r : Fin 1024) (j : Fin 65536) :
    matV q k (ix2 r j) = sims q k r j := by
  unfold sims cosine unitRow
  pointwise [matV]

theorem softV_row (y : FVec Ideal S1024x256 .f32) (r : Fin 1024) (j : Fin 256) : softV y (ix2 r j)
    = Ideal.exp (y (ix2 r j) - max (Ideal.ofBits .f32 4286578688#32)
        (Finset.fold max (Ideal.ofBits .f32 4286578688#32) (fun k : Fin 256 => y (ix2 r k)) Finset.univ)) := by
  pointwise [softV]

theorem meanV_row (e : FVec Ideal S1024x256 .f32) (t : IVec S1024x256 32) (r : Fin 1024) : meanV e t (ix1 r)
    = ∑ j : Fin 256, Ideal.div (e (ix2 r j)) (∑ i : Fin 256, e (ix2 r i))
        * FloatOps.sitofp (F := Ideal) .f32 (t (ix2 r j)) := by
  pointwise [meanV]

theorem wrapV_row (i : IVec S1024x256 32) (r : Fin 1024) (j : Fin 256) : wrapV i (ix3 r j 0)
    = Scalar.select (IntOp.cmpi .slt (i (ix2 r j)) 0#32) (IntOp.addi (i (ix2 r j)) 65536#32) (i (ix2 r j)) := by
  pointwise [wrapV]

theorem insideV_row (w : IVec S1024x256x1 32) (r : Fin 1024) (j : Fin 256) : insideV w (ix2 r j)
    = IntOp.andi (IntOp.andi (IntOp.cmpi .sge (w (ix3 r j 0)) 0#32) (IntOp.cmpi .sle (w (ix3 r j 0)) 65535#32)) 1#1 := by
  pointwise [insideV]
  rw [Finset.univ_unique, Finset.fold_singleton]
  rfl

/-- A value taken at an index that names a slot. -/
theorem takeV_row (v : IVec S65536 32) (i : IVec S1024x256 32) (r : Fin 1024) (j : Fin 256) (k : Fin 65536)
    (hi : i (ix2 r j) = BitVec.ofNat 32 k.val) : takeV v i (ix2 r j) = v (ix1 k) := by
  have hk := k.isLt
  have ht : (BitVec.ofNat 32 k.val).toInt = (k.val : Int) := toInt_small _ (by omega)
  have hw : wrapV i (ix3 r j 0) = BitVec.ofNat 32 k.val := by
    rw [wrapV_row, hi]
    show Scalar.select (BitVec.ofBool (BitVec.slt (BitVec.ofNat 32 k.val) 0#32)) _ _ = _
    rw [select_ofBool, if_neg]
    rw [BitVec.slt_eq_decide, ht, show (0#32 : BitVec 32).toInt = (0 : Int) from rfl]
    simp
  have hin : insideV (wrapV i) (ix2 r j) = 1#1 := by
    rw [insideV_row, hw]
    show IntOp.andi (IntOp.andi (BitVec.ofBool (BitVec.sle 0#32 (BitVec.ofNat 32 k.val)))
      (BitVec.ofBool (BitVec.sle (BitVec.ofNat 32 k.val) 65535#32))) 1#1 = 1#1
    rw [BitVec.sle_eq_decide, BitVec.sle_eq_decide, ht, show (0#32 : BitVec 32).toInt = (0 : Int) from rfl,
      show (65535#32 : BitVec 32).toInt = (65535 : Int) from rfl, decide_eq_true (by omega), decide_eq_true (by omega)]
    rfl
  have hx : wrapV i (ValueIdx.takeIdx (ix2 r j)) = BitVec.ofNat 32 k.val := by
    refine Eq.trans (congrArg (wrapV i) ?_) hw
    funext a
    match a with
    | ⟨0, _⟩ => rfl
    | ⟨1, _⟩ => rfl
    | ⟨2, _⟩ => rfl
  have hm : min (wrapV i (ValueIdx.takeIdx (ix2 r j))).toInt.toNat (65536 - 1) = k.val := by
    rw [hx, ht]
    omega
  have hg : Host.gather gather_S65536_S1024x256x1_S1024x256_n_0_n_n_0_2_1 v (wrapV i) (ix2 r j) = v (ix1 k) :=
    (ValueIdx.gather_take_apply (by norm_num) gather_S65536_S1024x256x1_S1024x256_n_0_n_n_0_2_1_wf v (wrapV i)
      (ix2 r j)).trans (congrArg (fun n => v (ix1 n)) (Fin.ext hm))
  unfold takeV
  rw [ValueIdx.select_apply, hin, ValueIdx.select_one, hg]

/-! The reference's results. -/

variable (V : Valuation τ sig (Elt Ideal)) (r : Fin 1024)

/-- The reference's matrix, a row of it. -/
theorem mat_row (q : FVec Ideal S1024x256 .f32) (k : FVec Ideal S65536x256 .f32) :
    row (matV q k) r = sims q k r := funext fun j => matV_row q k r j

/-- The reference's greatest similarities. -/
theorem values_row (j : Fin 256) : (show FVec Ideal S1024x256 .f32 from res_main_values V) (ix2 r j)
    = sims (qA V) (keyA V) r (order (sims (qA V) (keyA V) r) (j.castLE (by norm_num))) := by
  refine (topK_val (matV (qA V) (keyA V)) sliceFits_S1024x65536_S1024x256 (by norm_num) r j).trans ?_
  rw [mat_row]

/-- The reference's nearest slots, in order. -/
theorem indices_row (j : Fin 256) : (show IVec S1024x256 32 from res_main_indices V) (ix2 r j)
    = BitVec.ofNat 32 (order (sims (qA V) (keyA V) r) (j.castLE (by norm_num))).val := by
  refine (topK_ix (matV (qA V) (keyA V)) sliceFits_S1024x65536_S1024x256 (by norm_num) r j).trans ?_
  rw [mat_row]

/-- The reference's nearest slot. -/
theorem near_row : (show IVec S1024 32 from res_main_v28 V) (ix1 r)
    = BitVec.ofNat 32 (order (sims (qA V) (keyA V) r) ⟨0, by norm_num⟩).val := by
  refine Eq.trans ?_ (indices_row V r 0)
  have e : ∀ x : IVec S1024x256 32, shapeCast S1024 (extractStridedSlice S1024x1 ![0, 0] x
      slices_S1024x256_S1024x1_0_0) shapeCasts_S1024x1_S1024 (ix1 r) = x (ix2 r 0) := by
    intro x
    pointwise []
  exact e _

/-- The reference's posterior. -/
theorem post_row : (show FVec Ideal S1024 .f32 from val2 V (Proc.devRef .tc main_v26)) (ix1 r)
    = softMean (fun j : Fin 256 => sims (qA V) (keyA V) r (order (sims (qA V) (keyA V) r) (j.castLE (by norm_num))))
        (fun j : Fin 256 => vals (valA V) (order (sims (qA V) (keyA V) r) (j.castLE (by norm_num)))) := by
  have h : (show FVec Ideal S1024 .f32 from val2 V (Proc.devRef .tc main_v26))
      = meanV (softV (res_main_values V)) (takeV (valA V) (res_main_indices V)) := val2_main_v26 V
  rw [h, meanV_row]
  simp only [softV_row]
  unfold softMean vals
  have hv := values_row V r
  dsimp only at hv
  simp only [hv]
  refine Finset.sum_congr rfl fun j _ => ?_
  rw [takeV_row _ _ r j _ (indices_row V r j)]

end Cert.ReferenceIdeal.Hand

end
-- ==== Proof.Run.lean ====
/-
  The whole run of the kernel at any float values: every weakly fair execution of @main ends with every unscoped
  buffer of each device at the generated last boundary valuation `Gen.W26`, every counter at zero. The generated
  frame states only the arguments of it; this is the same launch, read at every buffer.
-/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

set_option backward.isDefEq.respectTransparency.types false in
/-- Every weakly fair execution of @main from any memory with zero counters ends with each buffer that the launch
    does not scope at the last boundary's contents and with every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W26 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h hz => ⟨h, funext fun g => hz g (.inr (no_unscoped g.2))⟩)

end Cert.KernelIdeal.Hand

end
-- ==== Proof.Agree.lean ====
/-
  The kernel's results and the reference's, at equal arguments.
-/
module

public import proofs.«01_k».proof.Proof.Mask
public import proofs.«01_k».proof.Proof.RefRows
public import proofs.«01_k».proof.Proof.Run

@[expose] public section

set_option maxRecDepth 16384

noncomputable section

namespace Cert.Hand

open Idealize.ShloMosaic Idealize.ShloMosaic.TcCoe Idealize.ShloMosaic.StableHlo
open Cert.KernelIdeal.Hand (sims vals)

/-- Every similarity lies between minus one and one. -/
theorem sims_bounds (q : FVec Ideal Cert.KernelIdeal.S1024x256 .f32) (k : FVec Ideal Cert.KernelIdeal.S65536x256 .f32) (r : Fin 1024)
    (j : Fin 65536) : ((-1 : ℝ) : EReal) ≤ sims q k r j ∧ sims q k r j ≤ ((1 : ℝ) : EReal) := cosine_bounds _ _

/-- The first place of a row's greatest similarity is the first of its order. -/
theorem nearest (q : FVec Ideal Cert.KernelIdeal.S1024x256 .f32) (k : FVec Ideal Cert.KernelIdeal.S65536x256 .f32) (r : Fin 1024) :
    firstMax (sims q k r) = BitVec.ofNat 32 (order (sims q k r) ⟨0, by norm_num⟩).val :=
  firstMax_eq _ _ rfl (by norm_num)

/-- The mean over the kernel's selection is the mean over the 256 greatest where the gap is wide enough. -/
theorem posterior (q : FVec Ideal Cert.KernelIdeal.S1024x256 .f32) (k : FVec Ideal Cert.KernelIdeal.S65536x256 .f32)
    (v : IVec Cert.KernelIdeal.S65536 32) (r : Fin 1024)
    (hgap : ((2 ^ (-24 : Int) : ℝ) : EReal) ≤ sims q k r (order (sims q k r) ⟨255, by norm_num⟩)
      - sims q k r (order (sims q k r) ⟨256, by norm_num⟩)) :
    mean (sims q k r) (vals v)
      = softMean (fun j : Fin 256 => sims q k r (order (sims q k r) (j.castLE (by norm_num))))
          (fun j : Fin 256 => vals v (order (sims q k r) (j.castLE (by norm_num)))) :=
  mean_eq _ _ (by norm_num) (fun j => (sims_bounds q k r j).1) (fun j => (sims_bounds q k r j).2)
    (fun j => ⟨((v (ix1 j)).toInt : ℝ), rfl⟩)
    (search_separates _ (by norm_num) (fun j => (sims_bounds q k r j).1) (fun j => (sims_bounds q k r j).2) hgap)

open Cert.KernelIdeal.Hand (nearV near_row post_row end_v13 end_v59 end_v68 e26_v77)
open Cert.KernelIdeal.Gen (W26)
open Cert.ReferenceIdeal.Value (val2 res_main_v28)

/-- An index of a one-axis shape is the index at its coordinate. -/
theorem ix1_coord {n : Nat} (i : (⟨1, ![n]⟩ : Shape).Idx) : ∃ r : Fin n, i = ix1 r :=
  ⟨i 0, funext fun a => match a with | ⟨0, _⟩ => rfl⟩

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))
  (h0 : Cert.ReferenceIdeal.Hand.qA V = Cert.KernelIdeal.Hand.qA m c)
  (h1 : Cert.ReferenceIdeal.Hand.labelA V = Cert.KernelIdeal.Hand.labelA m c)
  (h2 : Cert.ReferenceIdeal.Hand.keyA V = Cert.KernelIdeal.Hand.keyA m c)
  (h3 : Cert.ReferenceIdeal.Hand.valA V = Cert.KernelIdeal.Hand.valA m c)
  (h4 : Cert.ReferenceIdeal.Hand.ageA V = Cert.KernelIdeal.Hand.ageA m c)

include h0 h2 in
/-- Both programs find the same nearest slots. -/
theorem near_agree : (show IVec Cert.KernelIdeal.S1024 32 from res_main_v28 V) = nearV m ρ c := by
  funext i
  obtain ⟨r, rfl⟩ := ix1_coord i
  refine (Cert.ReferenceIdeal.Hand.near_row V r).trans ?_
  rw [h0, h2]
  exact (nearest _ _ r).symm.trans (near_row m ρ c r).symm

include h0 h1 h2 h3 h4 in
/-- The updated keys agree. -/
theorem keys_agree : (show FVec Ideal Cert.KernelIdeal.S65536x256 .f32 from val2 V (Proc.devRef .tc Cert.ReferenceIdeal.main_v69))
    = W26 m ρ c (Proc.devRef .tc Cert.KernelIdeal.main_v59) := by
  refine (Cert.ReferenceIdeal.Hand.newKey_eq V).trans (Eq.trans ?_ (end_v59 m ρ c).symm)
  have hn := near_agree m ρ c V h0 h2
  dsimp only at hn
  rw [h0, h1, h2, h3, h4, hn]

include h0 h1 h2 h3 h4 in
/-- The updated values agree. -/
theorem values_agree : (show IVec Cert.KernelIdeal.S65536 32 from val2 V (Proc.devRef .tc Cert.ReferenceIdeal.main_v78))
    = W26 m ρ c (Proc.devRef .tc Cert.KernelIdeal.main_v68) := by
  refine (Cert.ReferenceIdeal.Hand.newVal_eq V).trans (Eq.trans ?_ (end_v68 m ρ c).symm)
  have hn := near_agree m ρ c V h0 h2
  dsimp only at hn
  rw [h1, h3, h4, hn]

include h0 h1 h2 h3 h4 in
/-- The updated ages agree. -/
theorem ages_agree : (show IVec Cert.KernelIdeal.S65536 32 from val2 V (Proc.devRef .tc Cert.ReferenceIdeal.main_v87))
    = W26 m ρ c (Proc.devRef .tc Cert.KernelIdeal.main_v77) := by
  refine (Cert.ReferenceIdeal.Hand.newAge_eq V).trans (Eq.trans ?_ (e26_v77 m ρ c).symm)
  have hn := near_agree m ρ c V h0 h2
  dsimp only at hn
  rw [h1, h3, h4, hn]

include h0 h2 h3 in
/-- The posteriors agree in a row whose 256th and 257th greatest similarities are far enough apart. -/
theorem posterior_agree (r : Fin 1024)
    (hgap : ((2 ^ (-24 : Int) : ℝ) : EReal)
      ≤ sims (Cert.KernelIdeal.Hand.qA m c) (Cert.KernelIdeal.Hand.keyA m c) r
          (order (sims (Cert.KernelIdeal.Hand.qA m c) (Cert.KernelIdeal.Hand.keyA m c) r) ⟨255, by norm_num⟩)
        - sims (Cert.KernelIdeal.Hand.qA m c) (Cert.KernelIdeal.Hand.keyA m c) r
          (order (sims (Cert.KernelIdeal.Hand.qA m c) (Cert.KernelIdeal.Hand.keyA m c) r) ⟨256, by norm_num⟩)) :
    (show FVec Ideal Cert.KernelIdeal.S1024 .f32 from val2 V (Proc.devRef .tc Cert.ReferenceIdeal.main_v26)) (ix1 r)
      = (show FVec Ideal Cert.KernelIdeal.S1024 .f32 from W26 m ρ c (Proc.devRef .tc Cert.KernelIdeal.main_v13)) (ix1 r) := by
  refine (Cert.ReferenceIdeal.Hand.post_row V r).trans ?_
  rw [h0, h2, h3]
  exact (posterior _ _ _ r hgap).symm.trans (post_row m ρ c r).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_selected
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Hand

/-- The reference ends with its arguments unchanged and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The kernel and the reference agree, from memories that agree on the arguments: on every element of the updated
    keys, values and ages, and on the posterior of each row the mask selects. -/
theorem agree : Cert.algebraic_KernelIdeal_ReferenceIdeal_on_selected (hKernelIdeal := Cert.KernelIdeal.Gen.facts)
    (hReferenceIdeal := Cert.ReferenceIdeal.Gen.facts) (hOn_selected := Cert.On_selected.Gen.facts) := by
  intro m ρ m' ρ' _ hargs
  refine ⟨fun c => Cert.KernelIdeal.Gen.W26 m ρ c (Proc.devRef .tc Cert.KernelIdeal.main_v13),
    fun c => Cert.KernelIdeal.Gen.W26 m ρ c (Proc.devRef .tc Cert.KernelIdeal.main_v59),
    fun c => Cert.KernelIdeal.Gen.W26 m ρ c (Proc.devRef .tc Cert.KernelIdeal.main_v68),
    fun c => Cert.KernelIdeal.Gen.W26 m ρ c (Proc.devRef .tc Cert.KernelIdeal.main_v77), ?_, ?_⟩
  · refine (θ_run Cert.KernelIdeal.defs _ _).mono (fun r h c => ?_) (Cert.KernelIdeal.Hand.run_all (F := Ideal) m ρ)
    have e := h.1 c
    exact ⟨fun i _ => congrFun (e _ (Cert.KernelIdeal.Gen.mem_uc Cert.KernelIdeal.main_v13 (by decide))) i,
      fun i _ => congrFun (e _ (Cert.KernelIdeal.Gen.mem_uc Cert.KernelIdeal.main_v59 (by decide))) i,
      fun i _ => congrFun (e _ (Cert.KernelIdeal.Gen.mem_uc Cert.KernelIdeal.main_v68 (by decide))) i,
      fun i _ => congrFun (e _ (Cert.KernelIdeal.Gen.mem_uc Cert.KernelIdeal.main_v77 (by decide))) i,
      (e _ (Cert.KernelIdeal.Gen.mem_uc Cert.KernelIdeal.main_arg0 (by decide))).trans (Cert.KernelIdeal.Gen.W26_main_arg0 m ρ c),
      (e _ (Cert.KernelIdeal.Gen.mem_uc Cert.KernelIdeal.main_arg1 (by decide))).trans (Cert.KernelIdeal.Gen.W26_main_arg1 m ρ c),
      (e _ (Cert.KernelIdeal.Gen.mem_uc Cert.KernelIdeal.main_arg2 (by decide))).trans (Cert.KernelIdeal.Gen.W26_main_arg2 m ρ c),
      (e _ (Cert.KernelIdeal.Gen.mem_uc Cert.KernelIdeal.main_arg3 (by decide))).trans (Cert.KernelIdeal.Gen.W26_main_arg3 m ρ c),
      (e _ (Cert.KernelIdeal.Gen.mem_uc Cert.KernelIdeal.main_arg4 (by decide))).trans (Cert.KernelIdeal.Gen.W26_main_arg4 m ρ c)⟩
  · refine (θ_run Cert.ReferenceIdeal.defs _ _).mono (fun r h c => ?_) (Cert.ReferenceIdeal.Value.run (F := Ideal) m' ρ')
    obtain ⟨g0, g1, g2, g3, g4⟩ := hargs c
    obtain ⟨e0, e1, e2, e3, ha⟩ := h c
    refine ⟨fun i hi => ?_, fun i _ => ?_, fun i _ => ?_, fun i _ => ?_, ha⟩
    · obtain ⟨r, rfl⟩ := ix1_coord i
      exact (congrFun (e0.trans (Cert.ReferenceIdeal.Value.val2_main_v26 (StableHlo.launchContents m' c)).symm) (ix1 r)).trans
        (posterior_agree m ρ c (StableHlo.launchContents m' c) g0 g2 g3 r (Cert.On_selected.Hand.gap _ _ _ _ _ r hi))
    · exact congrFun ((e1.trans (Cert.ReferenceIdeal.Value.val2_main_v69 (StableHlo.launchContents m' c)).symm).trans
        (keys_agree m ρ c (StableHlo.launchContents m' c) g0 g1 g2 g3 g4)) i
    · exact congrFun ((e2.trans (Cert.ReferenceIdeal.Value.val2_main_v78 (StableHlo.launchContents m' c)).symm).trans
        (values_agree m ρ c (StableHlo.launchContents m' c) g0 g1 g2 g3 g4)) i
    · exact congrFun ((e3.trans (Cert.ReferenceIdeal.Value.val2_main_v87 (StableHlo.launchContents m' c)).symm).trans
        (ages_agree m ρ c (StableHlo.launchContents m' c) g0 g1 g2 g3 g4)) i

/-- Everything the certificate claims. -/
theorem claim : Cert.Claim := ⟨Cert.Kernel.Gen.facts, Cert.KernelIdeal.Gen.facts, Cert.ReferenceIdeal.Gen.facts,
  Cert.On_selected.Gen.facts, fun m ρ _ => Cert.Kernel.Gen.frame m ρ, fun m ρ _ => Cert.KernelIdeal.Gen.frame m ρ,
  frame_reference, trivial, agree⟩

end Cert.Proof

end
